-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_and_finite_KernelIdeal [hPre_routed_and_finite_KernelIdeal : Cert.Pre_routed_and_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_and_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_and_finite_ReferenceIdeal [hPre_routed_and_finite_ReferenceIdeal : Cert.Pre_routed_and_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_and_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routed_and_finite_KernelIdeal [hKernelIdeal : Cert.KernelIdeal.Facts] [hPre_routed_and_finite_KernelIdeal : Cert.Pre_routed_and_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_and_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routed_and_finite_ReferenceIdeal [hReferenceIdeal : Cert.ReferenceIdeal.Facts] [hPre_routed_and_finite_ReferenceIdeal : Cert.Pre_routed_and_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_and_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_routed_and_finite_KernelIdeal [hKernelIdeal : Cert.KernelIdeal.Facts] [hReferenceIdeal : Cert.ReferenceIdeal.Facts] [hPre_routed_and_finite_KernelIdeal : Cert.Pre_routed_and_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_and_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![8, 512, 1024]⟩ ⟨3, ![32, 512, 1024]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 1024]⟩ ⟨2, ![2048, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routed_and_finite_KernelIdeal : Cert.Pre_routed_and_finite_KernelIdeal.Facts) (hPre_routed_and_finite_ReferenceIdeal : Cert.Pre_routed_and_finite_ReferenceIdeal.Facts),
    quiescent_Kernel (hKernel := hKernel)
    ∧ quiescent_KernelIdeal (hKernelIdeal := hKernelIdeal)
    ∧ quiescent_KernelIdeal_pre_routed_and_finite_KernelIdeal (hKernelIdeal := hKernelIdeal) (hPre_routed_and_finite_KernelIdeal := hPre_routed_and_finite_KernelIdeal)
    ∧ quiescent_ReferenceIdeal (hReferenceIdeal := hReferenceIdeal)
    ∧ quiescent_ReferenceIdeal_pre_routed_and_finite_ReferenceIdeal (hReferenceIdeal := hReferenceIdeal) (hPre_routed_and_finite_ReferenceIdeal := hPre_routed_and_finite_ReferenceIdeal)
    ∧ preserves_Kernel_KernelIdeal
    ∧ algebraic_KernelIdeal_ReferenceIdeal_pre_routed_and_finite_KernelIdeal (hKernelIdeal := hKernelIdeal) (hReferenceIdeal := hReferenceIdeal) (hPre_routed_and_finite_KernelIdeal := hPre_routed_and_finite_KernelIdeal)
-- ==== Pre_routed_and_finite_KernelIdeal.lean ====
abbrev S2048x512 : Shape := ⟨2, ![2048, 512]⟩
abbrev S512x32 : Shape := ⟨2, ![512, 32]⟩
abbrev S2048x1 : Shape := ⟨2, ![2048, 1]⟩
abbrev S8x512x1024 : Shape := ⟨3, ![8, 512, 1024]⟩
abbrev S512x1024 : Shape := ⟨2, ![512, 1024]⟩
abbrev S_ : Shape := ⟨0, ![]⟩
abbrev S2048x512x1 : Shape := ⟨3, ![2048, 512, 1]⟩
abbrev S1x512x32 : Shape := ⟨3, ![1, 512, 32]⟩
abbrev S2048x512x32 : Shape := ⟨3, ![2048, 512, 32]⟩

class Facts : Prop where
  bcast_S_S2048x1 : S_.BroadcastsInDim S2048x1 (![] : Fin 0 → Fin S2048x1.rank)
  bcast_S_S2048x512 : S_.BroadcastsInDim S2048x512 (![] : Fin 0 → Fin S2048x512.rank)
  bcast_S_S512x32 : S_.BroadcastsInDim S512x32 (![] : Fin 0 → Fin S512x32.rank)
  bcast_S2048x1_S2048x512_0_1 : S2048x1.BroadcastsInDim S2048x512 (![0, 1] : Fin 2 → Fin S2048x512.rank)
  bcast_S2048x512_S2048x512x1_0_1 : S2048x512.BroadcastsInDim S2048x512x1 (![0, 1] : Fin 2 → Fin S2048x512x1.rank)
  bcast_S512x32_S1x512x32_1_2 : S512x32.BroadcastsInDim S1x512x32 (![1, 2] : Fin 2 → Fin S1x512x32.rank)
  bcast_S2048x512x1_S2048x512x32_0_1_2 : S2048x512x1.BroadcastsInDim S2048x512x32 (![0, 1, 2] : Fin 3 → Fin S2048x512x32.rank)
  bcast_S1x512x32_S2048x512x32_0_1_2 : S1x512x32.BroadcastsInDim S2048x512x32 (![0, 1, 2] : Fin 3 → Fin S2048x512x32.rank)

variable [Facts]

def fn {F : FTy → Type} [FloatOps F] (main_arg0 : FVec F S2048x512 .bf16) (main_arg1 : FVec F S512x32 .bf16) (main_arg2 : IVec S2048x1 32) (main_arg3 : FVec F S8x512x1024 .bf16) (main_arg4 : FVec F S512x1024 .bf16) : IVec S2048x512x32 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 32#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  let main_v5 : FVec F S2048x512 .bf16 := Host.absf main_arg0
  let main_cst : FVec F S_ .bf16 := constant S_ .bf16 0x7F80#16
  let main_v6 : FVec F S2048x512 .bf16 := broadcastInDim S2048x512 ![] bcast_S_S2048x512 main_cst
  let main_v7 : IVec S2048x512 1 := cmpf .olt main_v5 main_v6
  let main_v8 : FVec F S512x32 .bf16 := Host.absf main_arg1
  let main_cst_1 : FVec F S_ .bf16 := constant S_ .bf16 0x7F80#16
  let main_v9 : FVec F S512x32 .bf16 := broadcastInDim S512x32 ![] bcast_S_S512x32 main_cst_1
  let main_v10 : IVec S512x32 1 := cmpf .olt main_v8 main_v9
  let main_v11 : IVec S2048x512 1 := broadcastInDim S2048x512 ![0, 1] bcast_S2048x1_S2048x512_0_1 main_v4
  let main_v12 : IVec S2048x512 1 := andi main_v11 main_v7
  let main_v13 : IVec S2048x512x1 1 := broadcastInDim S2048x512x1 ![0, 1] bcast_S2048x512_S2048x512x1_0_1 main_v12
  let main_v14 : IVec S1x512x32 1 := broadcastInDim S1x512x32 ![1, 2] bcast_S512x32_S1x512x32_1_2 main_v10
  let main_v15 : IVec S2048x512x32 1 := broadcastInDim S2048x512x32 ![0, 1, 2] bcast_S2048x512x1_S2048x512x32_0_1_2 main_v13
  let main_v16 : IVec S2048x512x32 1 := broadcastInDim S2048x512x32 ![0, 1, 2] bcast_S1x512x32_S2048x512x32_0_1_2 main_v14
  let main_v17 : IVec S2048x512x32 1 := andi main_v15 main_v16
  main_v17
-- ==== Pre_routed_and_finite_ReferenceIdeal.lean ====
abbrev S2048x512 : Shape := ⟨2, ![2048, 512]⟩
abbrev S512x32 : Shape := ⟨2, ![512, 32]⟩
abbrev S2048x1 : Shape := ⟨2, ![2048, 1]⟩
abbrev S32x512x1024 : Shape := ⟨3, ![32, 512, 1024]⟩
abbrev S512x1024 : Shape := ⟨2, ![512, 1024]⟩
abbrev S_ : Shape := ⟨0, ![]⟩
abbrev S2048x512x1 : Shape := ⟨3, ![2048, 512, 1]⟩
abbrev S1x512x32 : Shape := ⟨3, ![1, 512, 32]⟩
abbrev S2048x512x32 : Shape := ⟨3, ![2048, 512, 32]⟩

class Facts : Prop where
  bcast_S_S2048x1 : S_.BroadcastsInDim S2048x1 (![] : Fin 0 → Fin S2048x1.rank)
  bcast_S_S2048x512 : S_.BroadcastsInDim S2048x512 (![] : Fin 0 → Fin S2048x512.rank)
  bcast_S_S512x32 : S_.BroadcastsInDim S512x32 (![] : Fin 0 → Fin S512x32.rank)
  bcast_S2048x1_S2048x512_0_1 : S2048x1.BroadcastsInDim S2048x512 (![0, 1] : Fin 2 → Fin S2048x512.rank)
  bcast_S2048x512_S2048x512x1_0_1 : S2048x512.BroadcastsInDim S2048x512x1 (![0, 1] : Fin 2 → Fin S2048x512x1.rank)
  bcast_S512x32_S1x512x32_1_2 : S512x32.BroadcastsInDim S1x512x32 (![1, 2] : Fin 2 → Fin S1x512x32.rank)
  bcast_S2048x512x1_S2048x512x32_0_1_2 : S2048x512x1.BroadcastsInDim S2048x512x32 (![0, 1, 2] : Fin 3 → Fin S2048x512x32.rank)
  bcast_S1x512x32_S2048x512x32_0_1_2 : S1x512x32.BroadcastsInDim S2048x512x32 (![0, 1, 2] : Fin 3 → Fin S2048x512x32.rank)

variable [Facts]

def fn {F : FTy → Type} [FloatOps F] (main_arg0 : FVec F S2048x512 .bf16) (main_arg1 : FVec F S512x32 .bf16) (main_arg2 : IVec S2048x1 32) (main_arg3 : FVec F S32x512x1024 .bf16) (main_arg4 : FVec F S512x1024 .bf16) : IVec S2048x512x32 1 :=
  let main_c : IVec S_ 32 := constantI S_ 32 0#32
  let main_v0 : IVec S2048x1 32 := broadcastInDim S2048x1 ![] bcast_S_S2048x1 main_c
  let main_v1 : IVec S2048x1 1 := cmpi .sge main_arg2 main_v0
  let main_c_0 : IVec S_ 32 := constantI S_ 32 32#32
  let main_v2 : IVec S2048x1 32 := broadcastInDim S2048x1 ![] bcast_S_S2048x1 main_c_0
  let main_v3 : IVec S2048x1 1 := cmpi .slt main_arg2 main_v2
  let main_v4 : IVec S2048x1 1 := andi main_v1 main_v3
  let main_v5 : FVec F S2048x512 .bf16 := Host.absf main_arg0
  let main_cst : FVec F S_ .bf16 := constant S_ .bf16 0x7F80#16
  let main_v6 : FVec F S2048x512 .bf16 := broadcastInDim S2048x512 ![] bcast_S_S2048x512 main_cst
  let main_v7 : IVec S2048x512 1 := cmpf .olt main_v5 main_v6
  let main_v8 : FVec F S512x32 .bf16 := Host.absf main_arg1
  let main_cst_1 : FVec F S_ .bf16 := constant S_ .bf16 0x7F80#16
  let main_v9 : FVec F S512x32 .bf16 := broadcastInDim S512x32 ![] bcast_S_S512x32 main_cst_1
  let main_v10 : IVec S512x32 1 := cmpf .olt main_v8 main_v9
  let main_v11 : IVec S2048x512 1 := broadcastInDim S2048x512 ![0, 1] bcast_S2048x1_S2048x512_0_1 main_v4
  let main_v12 : IVec S2048x512 1 := andi main_v11 main_v7
  let main_v13 : IVec S2048x512x1 1 := broadcastInDim S2048x512x1 ![0, 1] bcast_S2048x512_S2048x512x1_0_1 main_v12
  let main_v14 : IVec S1x512x32 1 := broadcastInDim S1x512x32 ![1, 2] bcast_S512x32_S1x512x32_1_2 main_v10
  let main_v15 : IVec S2048x512x32 1 := broadcastInDim S2048x512x32 ![0, 1, 2] bcast_S2048x512x1_S2048x512x32_0_1_2 main_v13
  let main_v16 : IVec S2048x512x32 1 := broadcastInDim S2048x512x32 ![0, 1, 2] bcast_S1x512x32_S2048x512x32_0_1_2 main_v14
  let main_v17 : IVec S2048x512x32 1 := andi main_v15 main_v16
  main_v17
-- ==== Kernel.lean ====
abbrev S2048x512 : Shape := ⟨2, ![2048, 512]⟩
abbrev S512x32 : Shape := ⟨2, ![512, 32]⟩
abbrev S2048x1 : Shape := ⟨2, ![2048, 1]⟩
abbrev S8x512x1024 : Shape := ⟨3, ![8, 512, 1024]⟩
abbrev S512x1024 : Shape := ⟨2, ![512, 1024]⟩
abbrev S3x512x1024 : Shape := ⟨3, ![3, 512, 1024]⟩
abbrev S3 : Shape := ⟨1, ![3]⟩
abbrev S_ : Shape := ⟨0, ![]⟩
abbrev S1x512x1024 : Shape := ⟨3, ![1, 512, 1024]⟩
abbrev S512x512 : Shape := ⟨2, ![512, 512]⟩
abbrev S512x1 : Shape := ⟨2, ![512, 1]⟩
abbrev S512 : Shape := ⟨1, ![512]⟩
abbrev S1 : Shape := ⟨1, ![1]⟩

abbrev nBuf : Space → Nat
  | .hbm => 6
  | .vmem => 8
  | .smem => 0
  | _ => 0

abbrev bufTy : (tb : Table) → Fin (tcTables nBuf tb) → BufTy
  | .hbm, ⟨0, _⟩ => ⟨S2048x512, .bf16⟩
  | .hbm, ⟨1, _⟩ => ⟨S512x32, .bf16⟩
  | .hbm, ⟨2, _⟩ => ⟨S2048x1, .i32⟩
  | .hbm, ⟨3, _⟩ => ⟨S8x512x1024, .bf16⟩
  | .hbm, ⟨4, _⟩ => ⟨S512x1024, .bf16⟩
  | .hbm, ⟨5, _⟩ => ⟨S512x1024, .f32⟩
  | .local _ .vmem, ⟨0, _⟩ => ⟨S2048x512, .bf16⟩
  | .local _ .vmem, ⟨1, _⟩ => ⟨S512x32, .bf16⟩
  | .local _ .vmem, ⟨2, _⟩ => ⟨S2048x1, .i32⟩
  | .local _ .vmem, ⟨3, _⟩ => ⟨S8x512x1024, .bf16⟩
  | .local _ .vmem, ⟨4, _⟩ => ⟨S512x1024, .bf16⟩
  | .local _ .vmem, ⟨5, _⟩ => ⟨S512x1024, .f32⟩
  | .local _ .vmem, ⟨6, _⟩ => ⟨S3x512x1024, .bf16⟩
  | .local _ .vmem, ⟨7, _⟩ => ⟨S3x512x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_26 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v29 : BitVec 32 := Scalar.subi v2 c0_i32_26
  let c1_i32_27 : BitVec 32 := 1#32
  let v30 : BitVec 32 := Scalar.subi v29 c1_i32_27
  let c8_i32 : BitVec 32 := 8#32
  let v31 : BitVec 32 := Scalar.addi v30 c8_i32
  let c4_i32_28 : BitVec 32 := 4#32
  let v32 : BitVec 32 := Scalar.remsi v31 c4_i32_28
  let c512_i32 : BitVec 32 := 512#32
  let v33 : BitVec 32 := Scalar.muli v32 c512_i32
  let v34 : Index := Scalar.indexCast v33
  let c0_29 : Index := 0#32
  ![v34.toNat, 0]
def k0_off2 (d0 : Dev nD) (c0_i32_26 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v29 : BitVec 32 := Scalar.subi v2 c0_i32_26
  let c1_i32_27 : BitVec 32 := 1#32
  let v30 : BitVec 32 := Scalar.subi v29 c1_i32_27
  let c8_i32 : BitVec 32 := 8#32
  let v31 : BitVec 32 := Scalar.addi v30 c8_i32
  let c4_i32_28 : BitVec 32 := 4#32
  let v32 : BitVec 32 := Scalar.remsi v31 c4_i32_28
  let c512_i32_30 : BitVec 32 := 512#32
  let v37 : BitVec 32 := Scalar.muli v32 c512_i32_30
  let v38 : Index := Scalar.indexCast v37
  let c0_31 : Index := 0#32
  ![v38.toNat, 0]
def k0_dev3 (d0 : Dev nD) : Nat :=
  let c0_i32_82 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_81 : BitVec 32 := 1#32
  let v175 : BitVec 32 := Scalar.muli v7 c1_i32_81
  let v176 : BitVec 32 := Scalar.addi c0_i32_82 v175
  v176.toNat
def k0_dev4 (d0 : Dev nD) : Nat :=
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_171 : BitVec 32 := 1#32
  let v349 : BitVec 32 := Scalar.muli v7 c1_i32_171
  let v350 : BitVec 32 := Scalar.addi c0_i32_172 v349
  v350.toNat
def k0_dev5 (d0 : Dev nD) : Nat :=
  let c0_i32_262 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_261 : BitVec 32 := 1#32
  let v523 : BitVec 32 := Scalar.muli v7 c1_i32_261
  let v524 : BitVec 32 := Scalar.addi c0_i32_262 v523
  v524.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_267 : BitVec 32 := 512#32
  let v533 : BitVec 32 := Scalar.muli v2 c512_i32_267
  let v534 : Index := Scalar.indexCast v533
  let c0_268 : Index := 0#32
  ![v534.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_269 : BitVec 32 := 512#32
  let v537 : BitVec 32 := Scalar.muli v2 c512_i32_269
  let v538 : Index := Scalar.indexCast v537
  let c0_270 : Index := 0#32
  ![v538.toNat, 0]
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x512 : Shape := ⟨2, ![2048, 512]⟩
abbrev S512x32 : Shape := ⟨2, ![512, 32]⟩
abbrev S2048x1 : Shape := ⟨2, ![2048, 1]⟩
abbrev S32x512x1024 : Shape := ⟨3, ![32, 512, 1024]⟩
abbrev S512x1024 : Shape := ⟨2, ![512, 1024]⟩
abbrev S2048x32 : Shape := ⟨2, ![2048, 32]⟩
abbrev S_ : Shape := ⟨0, ![]⟩
abbrev S2048 : Shape := ⟨1, ![2048]⟩
abbrev S2048x1024 : Shape := ⟨2, ![2048, 1024]⟩
abbrev S2048x1x1 : Shape := ⟨3, ![2048, 1, 1]⟩
abbrev S2048x512x1024 : Shape := ⟨3, ![2048, 512, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x32, .bf16⟩
  | .hbm, ⟨2, _⟩ => ⟨S2048x1, .i32⟩
  | .hbm, ⟨3, _⟩ => ⟨S32x512x1024, .bf16⟩
  | .hbm, ⟨4, _⟩ => ⟨S512x1024, .bf16⟩
  | .hbm, ⟨5, _⟩ => ⟨S2048x512, .f32⟩
  | .hbm, ⟨6, _⟩ => ⟨S512x32, .f32⟩
  | .hbm, ⟨7, _⟩ => ⟨S2048x32, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S2048x32, .f32⟩
  | .hbm, ⟨12, _⟩ => ⟨S2048x32, .f32⟩
  | .hbm, ⟨13, _⟩ => ⟨S2048x32, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S2048x32, .f32⟩
  | .hbm, ⟨18, _⟩ => ⟨S2048x32, .f32⟩
  | .hbm, ⟨19, _⟩ => ⟨S512x1024, .f32⟩
  | .hbm, ⟨20, _⟩ => ⟨S2048x1024, .f32⟩
  | .hbm, ⟨21, _⟩ => ⟨S2048, .i32⟩
  | .hbm, ⟨22, _⟩ => ⟨S_, .i32⟩
  | .hbm, ⟨23, _⟩ => ⟨S2048x1, .i32⟩
  | .hbm, ⟨24, _⟩ => ⟨S2048x1, .i1⟩
  | .hbm, ⟨25, _⟩ => ⟨S_, .i32⟩
  | .hbm, ⟨26, _⟩ => ⟨S2048x1, .i32⟩
  | .hbm, ⟨27, _⟩ => ⟨S2048x1, .i32⟩
  | .hbm, ⟨28, _⟩ => ⟨S2048x1, .i32⟩
  | .hbm, ⟨29, _⟩ => ⟨S2048x1x1, .i32⟩
  | .hbm, ⟨30, _⟩ => ⟨S2048x1, .f32⟩
  | .hbm, ⟨31, _⟩ => ⟨S_, .i32⟩
  | .hbm, ⟨32, _⟩ => ⟨S2048, .i32⟩
  | .hbm, ⟨33, _⟩ => ⟨S2048, .i1⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S2048x1, .i32⟩
  | .hbm, ⟨39, _⟩ => ⟨S2048x512x1024, .bf16⟩
  | .hbm, ⟨40, _⟩ => ⟨S2048x512x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Proof.Ideal.Protocol.lean ====
/-
# The ring of four devices: contents, cells and schedule

Each device signals both neighbours' barrier cell and waits for two units of its own. The unit from the right neighbour
hands over that neighbour's three landing slots. Then, for t = 0, 1, 2, the device fills slot t of its send buffer and
copies it to slot t of the right neighbour's landing buffer: send cell t gives the send slot back, landing cell t gives
the right neighbour its landing slot holding the left neighbour's running sum.

The running sums are `sum0`, `sum1`, `sum2` (a device's three outgoing slots) and `outAt` (its block of the result), each
the body's own payloads at what the device loads and at the left neighbour's slot.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Pipeline.Value

@[expose] public section

set_option maxRecDepth 16384

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The state at launch: any memory, every counter zero. -/
def s₀ : MemSt nD τ sig (Elt F) := ⟨m, fun _ => 0, ρ⟩

/-! ## The neighbours -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- The devices the body names: the first signal's is the left neighbour, all others the right one. -/
theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = nxt c := Fin.ext (k0_dev5_eq c)

def around : Dev nD ≃ Dev nD := ⟨nxt, prv, prv_nxt, nxt_prv⟩

/-! ## Buffers, slots and cells -/

abbrev xM : Memref sig .tc .vmem S2048x512 .bf16 := Memref.whole cc0_stg0_0
abbrev rtM : Memref sig .tc .vmem S512x32 .bf16 := Memref.whole cc0_stg1_0
abbrev ixM : Memref sig .tc .vmem S2048x1 .i32 := Memref.whole cc0_stg2_0
abbrev ewM : Memref sig .tc .vmem S8x512x1024 .bf16 := Memref.whole cc0_stg3_0
abbrev swM : Memref sig .tc .vmem S512x1024 .bf16 := Memref.whole cc0_stg4_0
abbrev oM : Memref sig .tc .vmem S512x1024 .f32 := Memref.whole cc0_stg5_0
/-- The send buffer and the landing buffer, three slots each. -/
abbrev sM : Memref sig .tc .vmem S3x512x1024 .bf16 := Memref.whole cc0_scratch0
abbrev lM : Memref sig .tc .vmem S3x512x1024 .bf16 := Memref.whole cc0_scratch1

set_option backward.proofsInPublic true in
theorem slot_inb (t : Fin 3) : ∀ a, (![t.val, 0, 0] : Fin 3 → ℕ) a + S1x512x1024.size a ≤ S3x512x1024.size a := by
  revert t; decide

/-- Slot `t` of a three-slot buffer. -/
abbrev slot (t : Fin 3) : Rect S3x512x1024 := Rect.unit (s := S3x512x1024) ![t.val, 0, 0] S1x512x1024.size (slot_inb t)
/-- The memref a copy names slot `t` of the send buffer by, and of the landing buffer. -/
abbrev sSlot (t : Fin 3) : Memref sig .tc .vmem S512x1024 .bf16 := (sM.slice (slot t) (fun _ => rfl)).squeeze S512x1024 squeezes_S1x512x1024_S512x1024
abbrev lSlot (t : Fin 3) : Memref sig .tc .vmem S512x1024 .bf16 := (lM.slice (slot t) (fun _ => rfl)).squeeze S512x1024 squeezes_S1x512x1024_S512x1024

abbrev barS : Sem sig := (SemArray.scalar (sig.barrier 0 rfl) : Sems sig S_).sem
set_option backward.proofsInPublic true in
abbrev sendQ (t : Fin 3) : DmaSem sig := ⟨6 + t.val, by have := t.isLt; show 6 + t.val < 12; omega⟩
set_option backward.proofsInPublic true in
abbrev landQ (t : Fin 3) : DmaSem sig := ⟨9 + t.val, by have := t.isLt; show 9 + t.val < 12; omega⟩

theorem send_sem0 : ((cc0_scratch2.slice (Rect.unit (s := S3) ![0] ![1] inb_S3_S1_0)).squeeze S_ squeezes_S1_S_).sem = sendQ 0 := rfl
theorem send_sem1 : ((cc0_scratch2.slice (Rect.unit (s := S3) ![1] ![1] inb_S3_S1_1)).squeeze S_ squeezes_S1_S_).sem = sendQ 1 := rfl
theorem send_sem2 : ((cc0_scratch2.slice (Rect.unit (s := S3) ![2] ![1] inb_S3_S1_2)).squeeze S_ squeezes_S1_S_).sem = sendQ 2 := rfl
theorem land_sem0 : ((cc0_scratch3.slice (Rect.unit (s := S3) ![0] ![1] inb_S3_S1_0)).squeeze S_ squeezes_S1_S_).sem = landQ 0 := rfl
theorem land_sem1 : ((cc0_scratch3.slice (Rect.unit (s := S3) ![1] ![1] inb_S3_S1_1)).squeeze S_ squeezes_S1_S_).sem = landQ 1 := rfl
theorem land_sem2 : ((cc0_scratch3.slice (Rect.unit (s := S3) ![2] ![1] inb_S3_S1_2)).squeeze S_ squeezes_S1_S_).sem = landQ 2 := rfl

abbrev barCell (c : Dev nD) : GSem nD τ sig := ((c : Thread nD τ), .reg barS)
abbrev sendCell (c : Dev nD) (t : Fin 3) : GSem nD τ sig := ((c : Thread nD τ), .dma (sendQ t))
abbrev landCell (c : Dev nD) (t : Fin 3) : GSem nD τ sig := ((c : Thread nD τ), .dma (landQ t))

/-- The kernel's own scoped semaphores, and all seven of the ring. -/
abbrev osem : Fin 6 → SemLoc sig := fun
  | 0 => .dma (sendQ 0) | 1 => .dma (sendQ 1) | 2 => .dma (sendQ 2) | 3 => .dma (landQ 0) | 4 => .dma (landQ 1) | 5 => .dma (landQ 2)
abbrev csem : Fin 7 → SemLoc sig := fun
  | 0 => .reg barS | 1 => .dma (sendQ 0) | 2 => .dma (sendQ 1) | 3 => .dma (sendQ 2) | 4 => .dma (landQ 0) | 5 => .dma (landQ 1) | 6 => .dma (landQ 2)
abbrev kcell (ck : Dev nD × Fin 7) : GSem nD τ sig := ((ck.1 : Thread nD τ), csem ck.2)

/-- The units one copy of a slot brings. -/
abbrev N : ℕ := (lSlot 0).view.dmaCredit
theorem N_pos : 0 < N := View.dmaCredit_pos _ (by decide)

/-! ## What a device loads -/

def xIn (c : Dev nD) : (cc0_stg0_0 : Ref sig .tc).ty.Contents (Elt F) :=
  (win0_0.blk (0 : Fin 1)).view.read (Elt F) ((s₀ m ρ).mem ((c : Thread nD τ).loc main_arg0))
def rtIn (c : Dev nD) : (cc0_stg1_0 : Ref sig .tc).ty.Contents (Elt F) :=
  (win0_1.blk (0 : Fin 1)).view.read (Elt F) ((s₀ m ρ).mem ((c : Thread nD τ).loc main_arg1))
def ixIn (c : Dev nD) : (cc0_stg2_0 : Ref sig .tc).ty.Contents (Elt F) :=
  (win0_2.blk (0 : Fin 1)).view.read (Elt F) ((s₀ m ρ).mem ((c : Thread nD τ).loc main_arg2))
def ewIn (c : Dev nD) : (cc0_stg3_0 : Ref sig .tc).ty.Contents (Elt F) :=
  (win0_3.blk (0 : Fin 1)).view.read (Elt F) ((s₀ m ρ).mem ((c : Thread nD τ).loc main_arg3))
def swIn (c : Dev nD) : (cc0_stg4_0 : Ref sig .tc).ty.Contents (Elt F) :=
  (win0_4.blk (0 : Fin 1)).view.read (Elt F) ((s₀ m ρ).mem ((c : Thread nD τ).loc main_arg4))

/-- The device's place on the ring, as the body computes it. -/
def place (c : Dev nD) : BitVec 32 := Scalar.remsi (Scalar.divsi (Dev.word c) 1#32) 4#32

def x0 (c : Dev nD) : Vec F S512x512 .bf16 := xM.view.readAt (Elt F) (Rect.unit (s := S2048x512) (k0_off1 c 0#32) S512x512.size (k0_off1_inb c 0)).toLoadRect (xIn m ρ c)
def x1 (c : Dev nD) : Vec F S512x512 .bf16 := xM.view.readAt (Elt F) (Rect.unit (s := S2048x512) (k0_off1 c 1#32) S512x512.size (k0_off1_inb c 1)).toLoadRect (xIn m ρ c)
def x2 (c : Dev nD) : Vec F S512x512 .bf16 := xM.view.readAt (Elt F) (Rect.unit (s := S2048x512) (k0_off1 c 2#32) S512x512.size (k0_off1_inb c 2)).toLoadRect (xIn m ρ c)
def x3 (c : Dev nD) : Vec F S512x512 .bf16 := xM.view.readAt (Elt F) (Rect.unit (s := S2048x512) (k0_off3 c) S512x512.size (k0_off3_inb c)).toLoadRect (xIn m ρ c)
def i0 (c : Dev nD) : Vec F S512x1 .i32 := ixM.view.readAt (Elt F) (Rect.unit (s := S2048x1) (k0_off2 c 0#32) S512x1.size (k0_off2_inb c 0)).toLoadRect (ixIn m ρ c)
def i1 (c : Dev nD) : Vec F S512x1 .i32 := ixM.view.readAt (Elt F) (Rect.unit (s := S2048x1) (k0_off2 c 1#32) S512x1.size (k0_off2_inb c 1)).toLoadRect (ixIn m ρ c)
def i2 (c : Dev nD) : Vec F S512x1 .i32 := ixM.view.readAt (Elt F) (Rect.unit (s := S2048x1) (k0_off2 c 2#32) S512x1.size (k0_off2_inb c 2)).toLoadRect (ixIn m ρ c)
def i3 (c : Dev nD) : Vec F S512x1 .i32 := ixM.view.readAt (Elt F) (Rect.unit (s := S2048x1) (k0_off4 c) S512x1.size (k0_off4_inb c)).toLoadRect (ixIn m ρ c)
def rt (c : Dev nD) : Vec F S512x32 .bf16 := rtM.view.readAt (Elt F) (Rect.unit (s := S512x32) ![0, 0] S512x32.size inb_S512x32_S512x32_0_0).toLoadRect (rtIn m ρ c)
def sw (c : Dev nD) : Vec F S512x1024 .bf16 := swM.view.readAt (Elt F) (Rect.unit (s := S512x1024) ![0, 0] S512x1024.size inb_S512x1024_S512x1024_0_0).toLoadRect (swIn m ρ c)

/-- The device's eight experts, as the products take them. -/
def ew (c : Dev nD) : Fin 8 → FVec F S512x1024 .bf16 := fun
  | 0 => k0_pay1 (ewM.view.readAt (Elt F) (Rect.unit (s := S8x512x1024) ![0, 0, 0] S1x512x1024.size inb_S8x512x1024_S1x512x1024_0_0_0).toLoadRect (ewIn m ρ c))
  | 1 => k0_pay2 (ewM.view.readAt (Elt F) (Rect.unit (s := S8x512x1024) ![1, 0, 0] S1x512x1024.size inb_S8x512x1024_S1x512x1024_1_0_0).toLoadRect (ewIn m ρ c))
  | 2 => k0_pay3 (ewM.view.readAt (Elt F) (Rect.unit (s := S8x512x1024) ![2, 0, 0] S1x512x1024.size inb_S8x512x1024_S1x512x1024_2_0_0).toLoadRect (ewIn m ρ c))
  | 3 => k0_pay4 (ewM.view.readAt (Elt F) (Rect.unit (s := S8x512x1024) ![3, 0, 0] S1x512x1024.size inb_S8x512x1024_S1x512x1024_3_0_0).toLoadRect (ewIn m ρ c))
  | 4 => k0_pay5 (ewM.view.readAt (Elt F) (Rect.unit (s := S8x512x1024) ![4, 0, 0] S1x512x1024.size inb_S8x512x1024_S1x512x1024_4_0_0).toLoadRect (ewIn m ρ c))
  | 5 => k0_pay6 (ewM.view.readAt (Elt F) (Rect.unit (s := S8x512x1024) ![5, 0, 0] S1x512x1024.size inb_S8x512x1024_S1x512x1024_5_0_0).toLoadRect (ewIn m ρ c))
  | 6 => k0_pay7 (ewM.view.readAt (Elt F) (Rect.unit (s := S8x512x1024) ![6, 0, 0] S1x512x1024.size inb_S8x512x1024_S1x512x1024_6_0_0).toLoadRect (ewIn m ρ c))
  | 7 => k0_pay8 (ewM.view.readAt (Elt F) (Rect.unit (s := S8x512x1024) ![7, 0, 0] S1x512x1024.size inb_S8x512x1024_S1x512x1024_7_0_0).toLoadRect (ewIn m ρ c))

/-! ## The four chunks' results, in the body's own payloads -/

abbrev lanes : IVec S512x32 32 := iota .tc S512x32 32 [1] iota_S512x32_d1_w32

/-- What slot 0 is filled with: the device's part of the first chunk. -/
def part0 (p : BitVec 32) (W : Fin 8 → FVec F S512x1024 .bf16) (x : Vec F S512x512 .bf16) (i : Vec F S512x1 .i32) (r : Vec F S512x32 .bf16) :
    FVec F S1x512x1024 .bf16 :=
  k0_pay16 p (W 6) (W 7) (k0_pay9 x) lanes (k0_pay10 x i r)
    (k0_pay14 p (W 3) (W 4) (W 5) (k0_pay9 x) lanes (k0_pay10 x i r)
      (k0_pay12 p (W 0) (W 1) (W 2) (k0_pay9 x) lanes (k0_pay10 x i r) (k0_pay11 (F := F)) (Scalar.muli p 8#32) 0#32) (k0_pay13 p lanes))
    (k0_pay15 p lanes (k0_pay10 x i r))

/-- What slot 1 is filled with: the device's part of the second chunk on top of what arrived in landing slot 0. -/
def part1 (p : BitVec 32) (W : Fin 8 → FVec F S512x1024 .bf16) (x : Vec F S512x512 .bf16) (i : Vec F S512x1 .i32) (r : Vec F S512x32 .bf16)
    (a : Vec F S1x512x1024 .bf16) : FVec F S1x512x1024 .bf16 :=
  k0_pay24 (k0_pay23 (W 7) (k0_pay17 x) lanes (k0_pay18 x i r)
    (k0_pay22 p (W 4) (W 5) (W 6) (k0_pay17 x) lanes (k0_pay18 x i r)
      (k0_pay21 p (W 0) (W 1) (W 2) (W 3) (k0_pay17 x) lanes (k0_pay18 x i r) (k0_pay19 (F := F)) (k0_pay20 p x i r)
        (constant S512x1024 .f32 0x00000000#32)) 8#32)
    (Scalar.addi (Scalar.muli p 8#32) 7#32) a)

/-- What slot 2 is filled with: the same of the third chunk and landing slot 1. -/
def part2 (p : BitVec 32) (W : Fin 8 → FVec F S512x1024 .bf16) (x : Vec F S512x512 .bf16) (i : Vec F S512x1 .i32) (r : Vec F S512x32 .bf16)
    (a : Vec F S1x512x1024 .bf16) : FVec F S1x512x1024 .bf16 :=
  k0_pay36 (k0_pay35 p (W 5) (W 6) (W 7) (k0_pay25 x) lanes (k0_pay29 (k0_pay26 i) (k0_pay27 x r) (k0_pay28 x r))
    (k0_pay32 p (W 2) (W 3) (W 4) (k0_pay25 x) lanes (k0_pay29 (k0_pay26 i) (k0_pay27 x r) (k0_pay28 x r))
      (k0_pay30 p (W 0) (W 1) (k0_pay25 x) (k0_pay26 i) (k0_pay27 x r) (k0_pay28 x r)) (k0_pay31 p (k0_pay26 i) (k0_pay27 x r) (k0_pay28 x r)))
    (k0_pay33 (k0_pay25 x)) (k0_pay34 p lanes (k0_pay29 (k0_pay26 i) (k0_pay27 x r) (k0_pay28 x r)))) a

/-- The block of the result: the device's part of its own chunk, what arrived in landing slot 2, and the shared product. -/
def part3 (p : BitVec 32) (W : Fin 8 → FVec F S512x1024 .bf16) (x : Vec F S512x512 .bf16) (i : Vec F S512x1 .i32) (r : Vec F S512x32 .bf16)
    (s : Vec F S512x1024 .bf16) (a : Vec F S1x512x1024 .bf16) : FVec F S512x1024 .f32 :=
  k0_pay46 (W 7)
    (k0_pay44 p (W 4) (W 5) (W 6) (k0_pay37 x) lanes (k0_pay38 (k0_pay37 x) i r)
      (k0_pay41 p (W 1) (W 2) (W 3) (k0_pay37 x) lanes (k0_pay38 (k0_pay37 x) i r) (k0_pay39 p (W 0) (k0_pay37 x) i r) (k0_pay40 p (k0_pay37 x) i r))
      (k0_pay42 p lanes (k0_pay38 (k0_pay37 x) i r)) (k0_pay43 (k0_pay37 x)))
    (k0_pay45 p (k0_pay37 x) lanes (k0_pay38 (k0_pay37 x) i r)) x s a

def sum0 (c : Dev nD) : Vec F S1x512x1024 .bf16 := part0 (place c) (ew m ρ c) (x0 m ρ c) (i0 m ρ c) (rt m ρ c)
def sum1 (c : Dev nD) : Vec F S1x512x1024 .bf16 := part1 (place c) (ew m ρ c) (x1 m ρ c) (i1 m ρ c) (rt m ρ c) (sum0 m ρ (prv c))
def sum2 (c : Dev nD) : Vec F S1x512x1024 .bf16 := part2 (place c) (ew m ρ c) (x2 m ρ c) (i2 m ρ c) (rt m ρ c) (sum1 m ρ (prv c))
/-- The device's block of the result. -/
def outAt (c : Dev nD) : (cc0_stg5_0 : Ref sig .tc).ty.Contents (Elt F) :=
  part3 (place c) (ew m ρ c) (x3 m ρ c) (i3 m ρ c) (rt m ρ c) (sw m ρ c) (sum2 m ρ (prv c))

/-- What a device sends out of slot `t`. -/
def sumAt (c : Dev nD) : Fin 3 → Vec F S1x512x1024 .bf16 := fun | 0 => sum0 m ρ c | 1 => sum1 m ρ c | 2 => sum2 m ρ c

/-! ## Holding a slot -/

/-- Slot `t` of a device's send buffer, and of its landing buffer. -/
def sPts (c : Dev nD) (t : Fin 3) (f : Buf (Elt F) ((c : Thread nD τ).loc cc0_scratch0)) : sProp 𝕄 :=
  ((c : Thread nD τ).loc cc0_scratch0) ↦[(slot t).set]{fullShare} f
def lPts (c : Dev nD) (t : Fin 3) (f : Buf (Elt F) ((c : Thread nD τ).loc cc0_scratch1)) : sProp 𝕄 :=
  ((c : Thread nD τ).loc cc0_scratch1) ↦[(slot t).set]{fullShare} f

instance sPts_storable (c : Dev nD) (t f) : BI.Storable (upEmb : UEmb _ 𝕄) (sPts (F := F) c t f) := by unfold sPts; infer_instance
instance lPts_storable (c : Dev nD) (t f) : BI.Storable (upEmb : UEmb _ 𝕄) (lPts (F := F) c t f) := by unfold lPts; infer_instance

/-- A slot's elements are those its access, and the memref a copy names it by, go through. -/
theorem access_set_s (t : Fin 3) : (sM.access (slot t)).set = (slot t).set := View.set_slice_whole _ _
theorem access_set_l (t : Fin 3) : (lM.access (slot t)).set = (slot t).set := View.set_slice_whole _ _
theorem sSlot_set (t : Fin 3) : (sSlot t).view.set = (slot t).set :=
  (View.set_reshape _ _).trans (View.set_slice_whole _ _)
theorem lSlot_set (t : Fin 3) : (lSlot t).view.set = (slot t).set :=
  (View.set_reshape _ _).trans (View.set_slice_whole _ _)

/-- An element is in slot `t` when its first index is `t`. -/
theorem mem_slot (t : Fin 3) (i : S3x512x1024.Idx) : i ∈ (slot t).set ↔ (i 0).val = t.val := by
  rw [Rect.mem_set_unit]
  constructor
  · intro h
    have h0 := h 0
    have h1 : t.val ≤ (i 0).val ∧ (i 0).val < t.val + 1 := h0
    omega
  · intro h a
    match a with
    | 0 => exact (show t.val ≤ (i 0).val ∧ (i 0).val < t.val + 1 by omega)
    | 1 => exact ⟨Nat.zero_le _, by have h1 : (i 1).val < 512 := (i 1).isLt; show (i 1).val < 0 + 512; omega⟩
    | 2 => exact ⟨Nat.zero_le _, by have h1 : (i 2).val < 1024 := (i 2).isLt; show (i 2).val < 0 + 1024; omega⟩

/-- The three slots are pairwise disjoint and make up the buffer. -/
theorem slot_disjoint (t t' : Fin 3) (h : t ≠ t') : Disjoint (slot t).set (slot t').set := by
  rw [Finset.disjoint_left]
  intro i hi hi'
  exact h (Fin.ext (((mem_slot t i).mp hi).symm.trans ((mem_slot t' i).mp hi')))
theorem slot_cover : (Finset.univ : Finset (Fin 3)).biUnion (fun t => (slot t).set) = Finset.univ := by
  ext i
  simp only [Finset.mem_biUnion, Finset.mem_univ, true_and, iff_true]
  exact ⟨⟨(i 0).val, (i 0).isLt⟩, (mem_slot _ i).mpr rfl⟩

/-- A whole buffer held at any contents is its three slots held, and back. -/
theorem split_slots (ℓ : Loc nD τ sig) (hℓ : Idx ℓ = S3x512x1024.Idx) (K : Fin 3 → Finset (Idx ℓ))
    (hd : ∀ t t', t ≠ t' → Disjoint (K t) (K t')) (hc : (Finset.univ : Finset (Fin 3)).biUnion K = Finset.univ) (f : Buf (Elt F) ℓ) :
    (ℓ ↦{fullShare} f : sProp 𝕄) ⊢ iprop((ℓ ↦[K 0]{fullShare} f) ∗ (ℓ ↦[K 1]{fullShare} f) ∗ (ℓ ↦[K 2]{fullShare} f)) := by
  have h : (ℓ ↦{fullShare} f : sProp 𝕄) = bigSep Finset.univ fun t => ℓ ↦[K t]{fullShare} f := by
    rw [← pointsTo_biUnion Finset.univ K (fun t _ t' _ h => hd t t' h), hc]
  rw [h, bigSep_univ_eq_bigSepL [0, 1, 2] (by decide) (by decide), bigSepL_cons_cons, bigSepL_cons_cons, bigSepL_singleton]
  exact BI.Entails.refl _

theorem join_slots (ℓ : Loc nD τ sig) (K : Fin 3 → Finset (Idx ℓ))
    (hd : ∀ t t', t ≠ t' → Disjoint (K t) (K t')) (hc : (Finset.univ : Finset (Fin 3)).biUnion K = Finset.univ) (f : Fin 3 → Buf (Elt F) ℓ) :
    iprop((ℓ ↦[K 0]{fullShare} f 0) ∗ (ℓ ↦[K 1]{fullShare} f 1) ∗ (ℓ ↦[K 2]{fullShare} f 2)) ⊢ (iprop(∃ g, ℓ ↦{fullShare} g) : sProp 𝕄) := by
  have h := pointsTo_biUnion_join (Ix := Unit) (Name := ℕ) (U := UU) (Lvl := ℕ) (q := fullShare) Finset.univ K f (f 0) (fun t _ t' _ h => hd t t' h)
  rw [bigSep_univ_eq_bigSepL [0, 1, 2] (by decide) (by decide), bigSepL_cons_cons, bigSepL_cons_cons, bigSepL_singleton, hc] at h
  iintro H0
  ihave H1 := h $$ H0
  icases H1 with ⟨%g, -, H⟩
  iexists g
  iexact H

theorem split_s (c : Dev nD) (f) : (((c : Thread nD τ).loc cc0_scratch0) ↦{fullShare} f : sProp 𝕄) ⊢ iprop(sPts c 0 f ∗ sPts c 1 f ∗ sPts c 2 f) :=
  split_slots ((c : Thread nD τ).loc cc0_scratch0) rfl (fun t => (slot t).set) slot_disjoint slot_cover f
theorem split_l (c : Dev nD) (f) : (((c : Thread nD τ).loc cc0_scratch1) ↦{fullShare} f : sProp 𝕄) ⊢ iprop(lPts c 0 f ∗ lPts c 1 f ∗ lPts c 2 f) :=
  split_slots ((c : Thread nD τ).loc cc0_scratch1) rfl (fun t => (slot t).set) slot_disjoint slot_cover f
theorem join_s (c : Dev nD) (f₀ f₁ f₂) :
    iprop(sPts c 0 f₀ ∗ sPts c 1 f₁ ∗ sPts c 2 f₂) ⊢ (iprop(∃ g, ((c : Thread nD τ).loc cc0_scratch0) ↦{fullShare} g) : sProp 𝕄) :=
  join_slots ((c : Thread nD τ).loc cc0_scratch0) (fun t => (slot t).set) slot_disjoint slot_cover (fun | 0 => f₀ | 1 => f₁ | 2 => f₂)
theorem join_l (c : Dev nD) (f₀ f₁ f₂) :
    iprop(lPts c 0 f₀ ∗ lPts c 1 f₁ ∗ lPts c 2 f₂) ⊢ (iprop(∃ g, ((c : Thread nD τ).loc cc0_scratch1) ↦{fullShare} g) : sProp 𝕄) :=
  join_slots ((c : Thread nD τ).loc cc0_scratch1) (fun t => (slot t).set) slot_disjoint slot_cover (fun | 0 => f₀ | 1 => f₁ | 2 => f₂)

/-- A copy of slot `t` lands what the send slot's access reads. -/
theorem landed_read (t : Fin 3) (fd : (cc0_scratch1 : Ref sig .tc).ty.Contents (Elt F)) (fs : (cc0_scratch0 : Ref sig .tc).ty.Contents (Elt F)) :
    (lM.access (slot t)).read (Elt F) ((lSlot t).view.write (Elt F) fd ((sSlot t).view.read (Elt F) fs) Finset.univ) = (sM.access (slot t)).read (Elt F) fs := by
  have h : (lSlot t).view.read (Elt F) ((lSlot t).view.write (Elt F) fd ((sSlot t).view.read (Elt F) fs) Finset.univ) = (sSlot t).view.read (Elt F) fs :=
    View.read_write_univ _ _
  funext j
  have hj := congrFun h ((Shape.reshapeEquiv shapeCasts_S1x512x1024_S512x1024).symm j)
  have e : ∀ (M : Memref sig .tc .vmem S3x512x1024 .bf16) (f : M.view.ty.Contents (Elt F)),
      ((M.slice (slot t) (fun _ => rfl)).squeeze S512x1024 squeezes_S1x512x1024_S512x1024).view.read (Elt F) f
        ((Shape.reshapeEquiv shapeCasts_S1x512x1024_S512x1024).symm j) = (M.access (slot t)).read (Elt F) f j := fun M f => by
    rw [Memref.read_squeeze_slice (Val := Elt F) M (slot t) (fun _ => rfl) squeezes_S1x512x1024_S512x1024 shapeCasts_S1x512x1024_S512x1024 f]
    exact congrArg ((M.access (slot t)).read (Elt F) f) (Equiv.apply_symm_apply _ j)
  exact ((e lM _).symm.trans hj).trans (e sM fs)

/-! ## The schedule -/

/-- What the right neighbour's signal hands over: its three landing slots. -/
def barPay (c : Dev nD) : sProp 𝕄 := iprop(∃ f, ((nxt c : Thread nD τ).loc cc0_scratch1) ↦{fullShare} f)
/-- What a finished copy out of slot `t` gives back: the slot. -/
def sendPay (c : Dev nD) (t : Fin 3) : sProp 𝕄 := iprop(∃ f, sPts c t f)
/-- What a copy into landing slot `t` hands over: the slot, holding what the left neighbour sent out of its own. -/
def landPay (c : Dev nD) (t : Fin 3) : sProp 𝕄 :=
  iprop(∃ f, ⌜(lM.access (slot t)).read (Elt F) f = sumAt m ρ (prv c) t⌝ ∗ lPts c t f)

/-- The duties of a cell's one round: two at the barrier, one at a send or landing cell. -/
def dutS : SemLoc sig → Finset Bool := fun
  | .reg s => if s = barS then Finset.univ else ∅
  | .dma q => if 6 ≤ q.val then {false} else ∅
def amtS : SemLoc sig → ℕ := fun | .reg _ => 1 | .dma _ => N
set_option backward.proofsInPublic true in
def payS (c : Dev nD) (sm : SemLoc sig) (d : Bool) : sProp 𝕄 := match sm with
  | .reg _ => if d then barPay c else iprop(emp)
  | .dma q => if q.val < 9 then sendPay c ⟨q.val % 3, Nat.mod_lt _ (by decide)⟩ else landPay m ρ c ⟨q.val % 3, Nat.mod_lt _ (by decide)⟩

def ringRd : Rounds.Schedule (GSem nD τ sig) Bool 𝕄 where
  duties g r := if r = 0 ∧ g.1.2 = .tc then dutS g.2 else ∅
  unitless _ := False
  amount g _ _ := amtS g.2
  payload g _ d := payS m ρ g.1.1 g.2 d
  amount_pos g _ _ _ := by
    unfold amtS
    split
    · exact Nat.one_pos
    · exact N_pos

instance payS_storable (c : Dev nD) (sm : SemLoc sig) (d : Bool) : BI.Storable (upEmb : UEmb _ 𝕄) (payS (F := F) m ρ c sm d) := by
  unfold payS barPay sendPay landPay
  split
  · split <;> infer_instance
  · split <;> infer_instance

instance ringRd_payload_storable (g : GSem nD τ sig) (r : ℕ) (d : Bool) :
    BI.Storable (upEmb : UEmb _ 𝕄) ((ringRd (F := F) m ρ).payload g r d) := payS_storable m ρ g.1.1 g.2 d

section Sched
variable (c : Dev nD) (t : Fin 3)

theorem duties_tc (sm : SemLoc sig) : (ringRd (F := F) m ρ).duties ((c : Thread nD τ), sm) 0 = dutS sm := by
  dsimp only [ringRd]; exact if_pos ⟨rfl, rfl⟩
theorem duties_bar : (ringRd (F := F) m ρ).duties (barCell c) 0 = Finset.univ := (duties_tc m ρ c _).trans (by unfold dutS; exact if_pos rfl)
theorem duties_send : (ringRd (F := F) m ρ).duties (sendCell c t) 0 = {false} :=
  (duties_tc m ρ c _).trans (if_pos (show 6 ≤ 6 + t.val by omega))
theorem duties_land : (ringRd (F := F) m ρ).duties (landCell c t) 0 = {false} :=
  (duties_tc m ρ c _).trans (if_pos (show 6 ≤ 9 + t.val by omega))
theorem duties_later (g : GSem nD τ sig) : ∀ r, 1 ≤ r → (ringRd (F := F) m ρ).duties g r = ∅ :=
  fun r hr => if_neg fun h => by omega

theorem amount_bar (d : Bool) : (ringRd (F := F) m ρ).amount (barCell c) 0 d = 1 := rfl
theorem amount_send (d : Bool) : (ringRd (F := F) m ρ).amount (sendCell c t) 0 d = N := rfl
theorem amount_land (d : Bool) : (ringRd (F := F) m ρ).amount (landCell c t) 0 d = N := rfl

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_send : (ringRd (F := F) m ρ).expect (sendCell c t) 0 = N := by
  unfold Schedule.expect Schedule.amountOf; rw [duties_send, Finset.sum_singleton, amount_send]
theorem expect_land : (ringRd (F := F) m ρ).expect (landCell c t) 0 = N := by
  unfold Schedule.expect Schedule.amountOf; rw [duties_land, Finset.sum_singleton, amount_land]

theorem payload_bar_true : (ringRd (F := F) m ρ).payload (barCell c) 0 true = barPay c := rfl
theorem payload_bar_false : (ringRd (F := F) m ρ).payload (barCell c) 0 false = iprop(emp) := rfl
theorem payload_send (d : Bool) : (ringRd (F := F) m ρ).payload (sendCell c t) 0 d = sendPay c t := by
  refine (if_pos (show 6 + t.val < 9 by omega)).trans ?_
  congr 1
  exact Fin.ext (show (6 + t.val) % 3 = t.val by omega)
theorem payload_land (d : Bool) : (ringRd (F := F) m ρ).payload (landCell c t) 0 d = landPay m ρ c t := by
  refine (if_neg (show ¬ 9 + t.val < 9 by omega)).trans ?_
  congr 1
  exact Fin.ext (show (9 + t.val) % 3 = t.val by omega)

theorem rest_bar : bigSep ((ringRd (F := F) m ρ).duties (barCell c) 0 \ ∅) (fun d => (ringRd (F := F) m ρ).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
theorem rest_send : bigSep ((ringRd (F := F) m ρ).duties (sendCell c t) 0 \ ∅) (fun d => (ringRd (F := F) m ρ).payload (sendCell c t) 0 d) = sendPay c t := by
  rw [Finset.sdiff_empty, duties_send, bigSep_singleton, payload_send]
theorem rest_land : bigSep ((ringRd (F := F) m ρ).duties (landCell c t) 0 \ ∅) (fun d => (ringRd (F := F) m ρ).payload (landCell c t) 0 d) = landPay m ρ c t := by
  rw [Finset.sdiff_empty, duties_land, bigSep_singleton, payload_land]

end Sched

/-! ## What each device owes at launch; the levels -/

/-- What is still owed after the third, second and first copy and after both signals: the right neighbour's landing
    cells not yet paid. -/
def o3 (c : Dev nD) : CellTallies nD τ sig Unit := 0
def o2 (c : Dev nD) : CellTallies nD τ sig Unit := o3 c + tallyAt (landCell (nxt c) 2) () N
def o1 (c : Dev nD) : CellTallies nD τ sig Unit := o2 c + tallyAt (landCell (nxt c) 1) () N
def o0 (c : Dev nD) : CellTallies nD τ sig Unit := o1 c + tallyAt (landCell (nxt c) 0) () N
def oB (c : Dev nD) : CellTallies nD τ sig Unit := o0 c + tallyAt (barCell (nxt c)) () 1
def O₀ (c : Dev nD) : CellTallies nD τ sig Unit := oB c + tallyAt (barCell (prv c)) () 1

def L (g : GSem nD τ sig) : Finset Unit := if g.1.2 = .tc then {()} else ∅
/-- Staging cells below the barrier cell, that below landing cell 0, that below landing cell 1, that below landing cell 2. -/
def lvS : SemLoc sig → ℕ := fun | .reg _ => 1 | .dma q => q.val - 7
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u : Unit} {n : ℕ} (h : 0 < tallyAt g () n g' u) : g' = g := by
  rw [tallyAt_apply] at h
  by_contra hn
  rw [if_neg (fun h' => hn h'.1)] at h
  exact Nat.lt_irrefl 0 h
theorem add_tally_pos {A : CellTallies nD τ sig Unit} {g g' : GSem nD τ sig} {u : Unit} {n : ℕ} (h : 0 < (A + tallyAt g () n) g' u) :
    0 < A g' u ∨ g' = g := by
  rw [Pi.add_apply, Finsupp.add_apply] at h
  rcases Nat.eq_zero_or_pos (A g' u) with h0 | h0
  · rw [h0, Nat.zero_add] at h; exact .inr (tally_pos h)
  · exact .inl h0

/-- Anything still owed lies on a device's cell of a level above the copies already made. -/
theorem o2_pos {c : Dev nD} {g : GSem nD τ sig} {u : Unit} (h : 0 < o2 c g u) : g.1.2 = .tc ∧ 3 < lvS g.2 := by
  rcases add_tally_pos h with h | rfl
  · exact absurd h (Nat.lt_irrefl 0)
  · exact ⟨rfl, (show 3 < 11 - 7 by decide)⟩
theorem o1_pos {c : Dev nD} {g : GSem nD τ sig} {u : Unit} (h : 0 < o1 c g u) : g.1.2 = .tc ∧ 2 < lvS g.2 := by
  rcases add_tally_pos h with h | rfl
  · exact ⟨(o2_pos h).1, by have := (o2_pos h).2; omega⟩
  · exact ⟨rfl, (show 2 < 10 - 7 by decide)⟩
theorem o0_pos {c : Dev nD} {g : GSem nD τ sig} {u : Unit} (h : 0 < o0 c g u) : g.1.2 = .tc ∧ 1 < lvS g.2 := by
  rcases add_tally_pos h with h | rfl
  · exact ⟨(o1_pos h).1, by have := (o1_pos h).2; omega⟩
  · exact ⟨rfl, (show 1 < 9 - 7 by decide)⟩
theorem O₀_pos {c : Dev nD} {g : GSem nD τ sig} {u : Unit} (h : 0 < O₀ c g u) : g.1.2 = .tc ∧ 0 < lvS g.2 := by
  rcases add_tally_pos h with h | rfl
  · rcases add_tally_pos h with h | rfl
    · exact ⟨(o0_pos h).1, by have := (o0_pos h).2; omega⟩
    · exact ⟨rfl, Nat.one_pos⟩
  · exact ⟨rfl, Nat.one_pos⟩

/-- A wait is allowed while everything owed lies above its level. -/
theorem mayWait_of (c : Dev nD) (sm : SemLoc sig) (l : ℕ) (O : CellTallies nD τ sig Unit) (hl : lvS sm ≤ l)
    (hO : ∀ g u, 0 < O g u → g.1.2 = .tc ∧ l < lvS g.2) : (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hl)
    (fun g u hg => (hO g u hg).2)

theorem mayWait_stage (c : Dev nD) (q : DmaSem sig) (hq : q.val ≤ 7) (O : CellTallies nD τ sig Unit) (hO : O = O₀ c ∨ O = 0) :
    (levAts L lv : sProp 𝕄) ⊢ MayWait (c : Thread nD τ) (.dma q) () O := by
  refine mayWait_of c _ 0 O (by show q.val - 7 ≤ 0; omega) (fun g u hg => ?_)
  rcases hO with rfl | rfl
  · exact O₀_pos hg
  · exact absurd hg (Nat.lt_irrefl 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants a device's body opens: its own seven, both neighbours' barrier cells, the right neighbour's
    landing cells. -/
def invs (K : Dev nD × Fin 7 → ℕ) (c : Dev nD) : sProp 𝕄 :=
  iprop(cellInv ER (ringRd m ρ) (K (c, 0)) (barCell c)
    ∗ cellInv ER (ringRd m ρ) (K (c, 1)) (sendCell c 0) ∗ cellInv ER (ringRd m ρ) (K (c, 2)) (sendCell c 1) ∗ cellInv ER (ringRd m ρ) (K (c, 3)) (sendCell c 2)
    ∗ cellInv ER (ringRd m ρ) (K (c, 4)) (landCell c 0) ∗ cellInv ER (ringRd m ρ) (K (c, 5)) (landCell c 1) ∗ cellInv ER (ringRd m ρ) (K (c, 6)) (landCell c 2)
    ∗ cellInv ER (ringRd m ρ) (K (nxt c, 0)) (barCell (nxt c)) ∗ cellInv ER (ringRd m ρ) (K (prv c, 0)) (barCell (prv c))
    ∗ cellInv ER (ringRd m ρ) (K (nxt c, 4)) (landCell (nxt c) 0) ∗ cellInv ER (ringRd m ρ) (K (nxt c, 5)) (landCell (nxt c) 1)
    ∗ cellInv ER (ringRd m ρ) (K (nxt c, 6)) (landCell (nxt c) 2))

instance invs_persistent (K : Dev nD × Fin 7 → ℕ) (c : Dev nD) : BI.Persistent (invs m ρ K c) := by unfold invs; infer_instance

/-- The ring's ghost state a device starts from: the invariants, its positions at its seven cells, the marks of the cells
    it pays, and the eight tokens it pays with. -/
def ghost (K : Dev nD × Fin 7 → ℕ) (c : Dev nD) : sProp 𝕄 :=
  iprop(invs m ρ K c
    ∗ (atPos ER (barCell c) 0 ∅ 0 ∗ atPos ER (sendCell c 0) 0 ∅ 0 ∗ atPos ER (sendCell c 1) 0 ∅ 0 ∗ atPos ER (sendCell c 2) 0 ∅ 0
      ∗ atPos ER (landCell c 0) 0 ∅ 0 ∗ atPos ER (landCell c 1) 0 ∅ 0 ∗ atPos ER (landCell c 2) 0 ∅ 0)
    ∗ (reached ER (barCell (nxt c)) 0 ∗ reached ER (barCell (prv c)) 0
      ∗ reached ER (landCell (nxt c) 0) 0 ∗ reached ER (landCell (nxt c) 1) 0 ∗ reached ER (landCell (nxt c) 2) 0
      ∗ reached ER (sendCell c 0) 0 ∗ reached ER (sendCell c 1) 0 ∗ reached ER (sendCell c 2) 0)
    ∗ (dutyTok ER (barCell (nxt c)) 0 false ∗ dutyTok ER (barCell (prv c)) 0 true
      ∗ dutyTok ER (landCell (nxt c) 0) 0 false ∗ dutyTok ER (landCell (nxt c) 1) 0 false ∗ dutyTok ER (landCell (nxt c) 2) 0 false
      ∗ dutyTok ER (sendCell c 0) 0 false ∗ dutyTok ER (sendCell c 1) 0 false ∗ dutyTok ER (sendCell c 2) 0 false))

/-- The credit a device waits with at the cells others pay. -/
def credits (c : Dev nD) : sProp 𝕄 :=
  iprop(cred (tallyAt (barCell c) () 2) ∗ cred (tallyAt (landCell c 0) () N) ∗ cred (tallyAt (landCell c 1) () N) ∗ cred (tallyAt (landCell c 2) () N))

def start (c : Dev nD) : sProp 𝕄 := iprop((∃ K, ghost m ρ K c) ∗ credits c ∗ levAts L lv)

/-- Both scratch buffers, at any contents. -/
def scratch (c : Dev nD) : sProp 𝕄 :=
  iprop((∃ f, ((c : Thread nD τ).loc cc0_scratch0) ↦{fullShare} f) ∗ (∃ f, ((c : Thread nD τ).loc cc0_scratch1) ↦{fullShare} f))

def Φ₀ (c : Dev nD) : sProp 𝕄 := iprop(start m ρ c ∗ scratch c)
/-- After the body: the scratch buffers, and all seven cells closed at zero. -/
def Φ₁ (c : Dev nD) : sProp 𝕄 :=
  iprop(scratch c ∗ semVal (barCell c) 0 ∗ semVal (sendCell c 0) 0 ∗ semVal (sendCell c 1) 0 ∗ semVal (sendCell c 2) 0
    ∗ semVal (landCell c 0) 0 ∗ semVal (landCell c 1) 0 ∗ semVal (landCell c 2) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => rtIn m ρ c
    | ⟨2, _⟩ => ixIn m ρ c
    | ⟨3, _⟩ => ewIn m ρ c
    | ⟨4, _⟩ => swIn m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdealRun

end
-- ==== Proof.Ideal.Body.lean ====
/-
# The body on one device

The body run from the launch state's share of a device to its result block, one rule per memory operation, in program
order.
-/
module

public import proofs.«01_k».proof.Proof.Ideal.Protocol

@[expose] public section

set_option maxRecDepth 65536

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The copy out of slot `t` to the right neighbour's landing slot. -/
theorem wp_send_slot (c n : Dev nD) (hn : n = nxt c) (t : Fin 3) (κ₁ κ₂ : ℕ)
    {hsc : (lSlot t : Memref sig (Dev.tc n : Thread nD τ).2.kind .vmem S512x1024 .bf16).view.ref.isScScratch = false}
    {hsrc : (sSlot t).view.WordExact} {hdst : (lSlot t).view.WordExact}
    {hsem : DmaTarget.Typed .vmem (.dma (landQ t)) (.remote (Dev.tc n : Thread nD τ) (lSlot t) (.dma (sendQ t)) hsc)}
    {α : Type} {Q : α → sProp 𝕄} {k : PUnit → Prog (TpuEff nD τ sig (Elt F) Λ₀ .tc) α}
    (fs fn) (hfs : (sM.access (slot t)).read (Elt F) fs = sumAt m ρ c t) (O : CellTallies nD τ sig Unit) (W : Waits sig Unit) :
    iprop(cellInv ER (ringRd m ρ) κ₁ (sendCell c t) ∗ cellInv ER (ringRd m ρ) κ₂ (landCell (nxt c) t)
        ∗ sPts c t fs ∗ lPts (nxt c) t fn
        ∗ owes (c : Thread nD τ) (O + tallyAt (landCell (nxt c) t) () N) W
        ∗ dutyTok ER (sendCell c t) 0 false ∗ reached ER (sendCell c t) 0
        ∗ dutyTok ER (landCell (nxt c) t) 0 false ∗ reached ER (landCell (nxt c) t) 0)
      ⊢ iprop(((cred (tallyAt (sendCell c t) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSlot t) (.remote (Dev.tc n : Thread nD τ) (lSlot t) (.dma (sendQ t)) hsc) (.dma (landQ t)) hsrc hdst hsem) k) Q) := by
  subst hn
  have hs : (sPts c t fs : sProp 𝕄) = ((sSlot t).view.loc (c : Thread nD τ) ↦[(sSlot t).view.set]{fullShare} fs) := by
    rw [sSlot_set]; rfl
  have hl : ∀ f, (lPts (nxt c) t f : sProp 𝕄) = ((lSlot t).view.loc (nxt c : Thread nD τ) ↦[(lSlot t).view.set]{fullShare} f) := fun f => by
    rw [lSlot_set]; rfl
  have hN : (lSlot t).view.amount (.dma (landQ t)) = N := rfl
  have hp₁ : ((sSlot t).view.loc (c : Thread nD τ) ↦[(sSlot t).view.set]{fullShare} fs : sProp 𝕄) ⊢ (ringRd m ρ).payload (sendCell c t) 0 false := by
    rw [payload_send, ← hs]; unfold sendPay
    iintro H; iexists fs; iexact H
  have hr := (landed_read (F := F) t fn fs).trans hfs
  have hp₂ : ((lSlot t).view.loc (nxt c : Thread nD τ) ↦[(lSlot t).view.set]{fullShare} ((lSlot t).view.write (Elt F) fn ((sSlot t).view.read (Elt F) fs) Finset.univ) : sProp 𝕄)
      ⊢ (ringRd m ρ).payload (landCell (nxt c) t) 0 false := by
    rw [payload_land, ← hl]; unfold landPay
    rw [prv_nxt]
    iintro H; iexists ((lSlot t).view.write (Elt F) fn ((sSlot t).view.read (Elt F) fs) Finset.univ); isplitr
    · ipureintro; exact hr
    · iexact H
  rw [hs, hl]
  exact Rounds.wp_send_pointsTo (defs := defs₀ (F := F)) (k := k) (Q := Q) 𝒱₀ ER (ringRd m ρ) (c : Thread nD τ) none (c' := (nxt c : Thread nD τ)) (src := sSlot t) (dst := lSlot t) (q := fullShare) (fs := fs) (fd := fn)
    (sS := .dma (sendQ t)) (sem := .dma (landQ t)) (hsc := hsc) (hsrc := hsrc) (hdst := hdst) (hsem := hsem)
    (κ₁ := κ₁) (κ₂ := κ₂) (r₁ := 0) (r₂ := 0) (d₁ := false) (d₂ := false)
    (by rw [duties_send]; exact Finset.mem_singleton_self _) (by rw [duties_land]; exact Finset.mem_singleton_self _)
    () () N hN (amount_send m ρ c t false) (amount_land m ρ (nxt c) t false) O rfl (W := W) hp₁ hp₂ (Es := Set.univ)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Body

variable (K : Dev nD × Fin 7 → ℕ)

def bodyPre (c : Dev nD) : sProp 𝕄 :=
  iprop((ghost m ρ K c ∗ credits c ∗ levAts L lv ∗ scratch c)
    ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def bodyPost (c : Dev nD) : sProp 𝕄 :=
  iprop(Φ₁ c ∗ (dats m ρ 0 c).owesAt () t₀.succ ∗ stg c cc0_stg0_0 (xIn m ρ c) ∗ stg c cc0_stg1_0 (rtIn m ρ c) ∗ stg c cc0_stg2_0 (ixIn m ρ c)
    ∗ stg c cc0_stg3_0 (ewIn m ρ c) ∗ stg c cc0_stg4_0 (swIn m ρ c) ∗ stg c cc0_stg5_0 (outAt m ρ c))

theorem hz : (![0, 0] : Fin 2 → Nat) = fun _ => 0 := funext fun a => by fin_cases a <;> rfl
theorem write_out (f w : (cc0_stg5_0 : Ref sig .tc).ty.Contents (Elt F)) :
    ((oM : Memref sig .tc .vmem S512x1024 .f32).access (Rect.unit (s := S512x1024) ![0, 0] S512x1024.size inb_S512x1024_S512x1024_0_0) : View sig .tc _ _ _).write (Elt F) f w Finset.univ = w :=
  Memref.write_access_unit_zero_univ (Elt F) cc0_stg5_0 hz _ f w

set_option maxHeartbeats 8000000 in
/-- The body from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton]
  unfold k0_part1_skel k0_part2_skel k0_part3_skel k0_part4_skel k0_part5_skel k0_part6_skel k0_part7_skel k0_part8_skel k0_part9_skel
    k0_part10_skel k0_part11_skel k0_part12_skel k0_part13_skel k0_part14_skel k0_part15_skel k0_part16_skel k0_part17_skel k0_part18_skel
  simp only [semSignalWord, semWaitWord, Prog.lift, Prog.bind_op, Prog.bind_ret, Prog.pure_eq_ret, Prog.bind_assoc, wp_deviceId]
  simp only [send_sem0, send_sem1, send_sem2, land_sem0, land_sem1, land_sem2]
  unfold bodyPre ghost invs credits scratch
  iintro ⟨⟨⟨⟨⟨#HIbar, #HIs0, #HIs1, #HIs2, #HIl0, #HIl1, #HIl2, #HIbarN, #HIbarP, #HIn0, #HIn1, #HIn2⟩,
      ⟨HatB, HatS0, HatS1, HatS2, HatL0, HatL1, HatL2⟩, ⟨#HrBN, #HrBP, #HrN0, #HrN1, #HrN2, #HrS0, #HrS1, #HrS2⟩,
      ⟨HtBN, HtBP, HtN0, HtN1, HtN2, HtS0, HtS1, HtS2⟩⟩, ⟨HcB, HcL0, HcL1, HcL2⟩, #Hlev, ⟨%fs, Hs⟩, ⟨%fl, Hl⟩⟩,
    Ho, ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩, Hk⟩
  have hx0 : g0 = xIn m ρ c := by rw [hg0]; unfold Dat.before; rw [if_pos (fetch0_0 t₀)]; rfl
  have hx1 : g1 = rtIn m ρ c := by rw [hg1]; unfold Dat.before; rw [if_pos (fetch0_1 t₀)]; rfl
  have hx2 : g2 = ixIn m ρ c := by rw [hg2]; unfold Dat.before; rw [if_pos (fetch0_2 t₀)]; rfl
  have hx3 : g3 = ewIn m ρ c := by rw [hg3]; unfold Dat.before; rw [if_pos (fetch0_3 t₀)]; rfl
  have hx4 : g4 = swIn m ρ c := by rw [hg4]; unfold Dat.before; rw [if_pos (fetch0_4 t₀)]; rfl
  subst hx0 hx1 hx2 hx3 hx4
  unfold Dat.owesAt Pipeline.owesWithin
  icases Ho with ⟨%W, %hW, HO⟩
  rw [show (dats m ρ 0 c).owed t₀.castSucc = O₀ c from rfl]
  simp only [dev1_eq c, dev2_eq c]
  -- the left neighbour's barrier cell, with the landing buffer; then the right one's
  iapply (Rounds.wp_signal 𝒱₀ ER (ringRd m ρ) (c : Thread nD τ) none (dst := (prv c : Thread nD τ)) (κ := K (prv c, 0))
      (d := true) (by rw [duties_bar]; exact Finset.mem_univ _) ((amount_bar m ρ (prv c) true).trans (by decide)) () (oB c) rfl)
    $$ [HO HtBP Hl]
  · isplitr; · iexact HIbarP
    isplitl [HO]; · iexact HO
    isplitl [HtBP]; · iexact HtBP
    isplitl [Hl]
    · rw [payload_bar_true]; unfold barPay; rw [nxt_prv]; iexists fl; iexact Hl
    iexact HrBP
  iintro HO
  unfold oB
  iapply (Rounds.wp_signal 𝒱₀ ER (ringRd m ρ) (c : Thread nD τ) none (dst := (nxt c : Thread nD τ)) (κ := K (nxt c, 0))
      (d := false) (by rw [duties_bar]; exact Finset.mem_univ _) ((amount_bar m ρ (nxt c) false).trans (by decide)) () (o0 c) rfl)
    $$ [HO HtBN]
  · isplitr; · iexact HIbarN
    isplitl [HO]; · iexact HO
    isplitl [HtBN]; · iexact HtBN
    isplitr; · rw [payload_bar_false]; iempintro
    iexact HrBN
  iintro HO
  iapply (Rounds.wp_wait_rest_token 𝒱₀ ER (ringRd m ρ) (c : Thread nD τ) none (κ := K (c, 0))
      (wpE_semWait_eq 𝒱₀ (c : Thread nD τ) none Set.univ) (Set.mem_univ _) () (O := o0 c) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_of c (.reg barS) 1 (o0 c) (le_refl _) (fun g u h => o0_pos h)); iexact Hlev
    iexact HatB
  iintro ⟨HO, HatB, -, Hpay⟩
  ihave Hp := (Entails.of_eq (rest_bar m ρ c)) $$ Hpay
  unfold barPay
  icases Hp with ⟨-, ⟨%fn, Hn⟩⟩
  ihave Hn' := (split_l (nxt c) fn) $$ Hn
  icases Hn' with ⟨Hn0, Hn1, Hn2⟩
  ihave Hs' := (split_s c fs) $$ Hs
  icases Hs' with ⟨Hs0, Hs1, Hs2⟩
  -- the experts; the first chunk
  iapply (wp_load 𝒱₀ (c : Thread nD τ) none Set.univ (m := ewM) (Finset.subset_univ _)) $$ H3; iintro H3
  iapply (wp_load 𝒱₀ (c : Thread nD τ) none Set.univ (m := ewM) (Finset.subset_univ _)) $$ H3; iintro H3
  iapply (wp_load 𝒱₀ (c : Thread nD τ) none Set.univ (m := ewM) (Finset.subset_univ _)) $$ H3; iintro H3
  iapply (wp_load 𝒱₀ (c : Thread nD τ) none Set.univ (m := ewM) (Finset.subset_univ _)) $$ H3; iintro H3
  iapply (wp_load 𝒱₀ (c : Thread nD τ) none Set.univ (m := ewM) (Finset.subset_univ _)) $$ H3; iintro H3
  iapply (wp_load 𝒱₀ (c : Thread nD τ) none Set.univ (m := ewM) (Finset.subset_univ _)) $$ H3; iintro H3
  iapply (wp_load 𝒱₀ (c : Thread nD τ) none Set.univ (m := ewM) (Finset.subset_univ _)) $$ H3; iintro H3
  iapply (wp_load 𝒱₀ (c : Thread nD τ) none Set.univ (m := ewM) (Finset.subset_univ _)) $$ H3; iintro H3
  iapply (wp_load 𝒱₀ (c : Thread nD τ) none Set.univ (m := xM) (Finset.subset_univ _)) $$ H0; iintro H0
  iapply (wp_load 𝒱₀ (c : Thread nD τ) none Set.univ (m := ixM) (Finset.subset_univ _)) $$ H2; iintro H2
  iapply (wp_load 𝒱₀ (c : Thread nD τ) none Set.univ (m := rtM) (Finset.subset_univ _)) $$ H1; iintro H1
  unfold sPts
  iapply (wp_load_rect 𝒱₀ (c : Thread nD τ) none Set.univ (m := sM) (r := slot 0) (by rw [access_set_s])) $$ Hs0; iintro Hs0
  iapply (wp_store 𝒱₀ (c : Thread nD τ) none Set.univ (m := sM) (r := slot 0) (Mk := Finset.univ) (by rw [View.setOn_univ, access_set_s])) $$ Hs0; iintro Hs0
  unfold o0
  iapply (wp_send_slot m ρ c _ (dev3_eq c) 0 (K (c, 1)) (K (nxt c, 4)) _ fn
      (View.read_write_univ _ _) (o1 c) (insert (SemLoc.reg barS, ()) W)) $$ [Hs0 Hn0 HO HtS0 HtN0]
  · isplitr; · iexact HIs0
    isplitr; · iexact HIn0
    isplitl [Hs0]; · unfold sPts; iexact Hs0
    isplitl [Hn0]; · unfold lPts; iexact Hn0
    isplitl [HO]; · iexact HO
    isplitl [HtS0]; · iexact HtS0
    isplitr; · iexact HrS0
    isplitl [HtN0]; · iexact HtN0
    iexact HrN0
  iintro ⟨HcS0, HO⟩
  -- the second chunk, and what arrived in landing slot 0
  iapply (wp_load 𝒱₀ (c : Thread nD τ) none Set.univ (m := xM) (Finset.subset_univ _)) $$ H0; iintro H0
  iapply (wp_load 𝒱₀ (c : Thread nD τ) none Set.univ (m := ixM) (Finset.subset_univ _)) $$ H2; iintro H2
  iapply (wp_load 𝒱₀ (c : Thread nD τ) none Set.univ (m := rtM) (Finset.subset_univ _)) $$ H1; iintro H1
  iapply (Rounds.wp_wait_rest_token 𝒱₀ ER (ringRd m ρ) (c : Thread nD τ) none (κ := K (c, 1))
      (wpE_waitDma2_eq 𝒱₀ (c : Thread nD τ) none Set.univ) (Set.mem_univ _) () (O := o1 c) (W := (insert (SemLoc.reg barS, ()) W)) (R := 0) (m := 0) (T := ∅)
      (by rw [Nat.zero_add, expect_send m ρ c 0])) $$ [HcS0 HO HatS0]
  · isplitr; · iexact HIs0
    isplitl [HcS0]; · iexact HcS0
    isplitl [HO]; · iexact HO
    isplitr; · iapply (mayWait_of c (.dma (sendQ 0)) 2 (o1 c) (by show _ - 7 ≤ _; decide) (fun g u h => o1_pos h)); iexact Hlev
    iexact HatS0
  iintro ⟨HO, HatS0, -, Hpay⟩
  ihave Hp := (Entails.of_eq (rest_send m ρ c 0)) $$ Hpay
  unfold sendPay
  icases Hp with ⟨%fb0, Hs0⟩
  iapply (Rounds.wp_wait_rest_token 𝒱₀ ER (ringRd m ρ) (c : Thread nD τ) none (κ := K (c, 4))
      (wpE_waitDma2_eq 𝒱₀ (c : Thread nD τ) none Set.univ) (Set.mem_univ _) () (O := o1 c) (W := (insert (SemLoc.dma (sendQ 0), ()) (insert (SemLoc.reg barS, ()) W))) (R := 0) (m := 0) (T := ∅)
      (by rw [Nat.zero_add, expect_land m ρ c 0])) $$ [HcL0 HO HatL0]
  · isplitr; · iexact HIl0
    isplitl [HcL0]; · iexact HcL0
    isplitl [HO]; · iexact HO
    isplitr; · iapply (mayWait_of c (.dma (landQ 0)) 2 (o1 c) (by show _ - 7 ≤ _; decide) (fun g u h => o1_pos h)); iexact Hlev
    iexact HatL0
  iintro ⟨HO, HatL0, -, Hpay⟩
  ihave Hp := (Entails.of_eq (rest_land m ρ c 0)) $$ Hpay
  unfold landPay
  icases Hp with ⟨%fa0, %hfa0, Hl0⟩
  unfold lPts
  iapply (wp_load_rect 𝒱₀ (c : Thread nD τ) none Set.univ (m := lM) (r := slot 0) (by rw [access_set_l])) $$ Hl0; iintro Hl0
  rw [hfa0]
  unfold sPts
  iapply (wp_load_rect 𝒱₀ (c : Thread nD τ) none Set.univ (m := sM) (r := slot 1) (by rw [access_set_s])) $$ Hs1; iintro Hs1
  iapply (wp_store 𝒱₀ (c : Thread nD τ) none Set.univ (m := sM) (r := slot 1) (Mk := Finset.univ) (by rw [View.setOn_univ, access_set_s])) $$ Hs1; iintro Hs1
  unfold o1
  iapply (wp_send_slot m ρ c _ (dev4_eq c) 1 (K (c, 2)) (K (nxt c, 5)) _ fn
      (View.read_write_univ _ _) (o2 c) (insert (SemLoc.dma (landQ 0), ()) (insert (SemLoc.dma (sendQ 0), ()) (insert (SemLoc.reg barS, ()) W)))) $$ [Hs1 Hn1 HO HtS1 HtN1]
  · isplitr; · iexact HIs1
    isplitr; · iexact HIn1
    isplitl [Hs1]; · unfold sPts; iexact Hs1
    isplitl [Hn1]; · unfold lPts; iexact Hn1
    isplitl [HO]; · iexact HO
    isplitl [HtS1]; · iexact HtS1
    isplitr; · iexact HrS1
    isplitl [HtN1]; · iexact HtN1
    iexact HrN1
  iintro ⟨HcS1, HO⟩
  -- the third chunk, and what arrived in landing slot 1
  iapply (wp_load 𝒱₀ (c : Thread nD τ) none Set.univ (m := xM) (Finset.subset_univ _)) $$ H0; iintro H0
  iapply (wp_load 𝒱₀ (c : Thread nD τ) none Set.univ (m := ixM) (Finset.subset_univ _)) $$ H2; iintro H2
  iapply (wp_load 𝒱₀ (c : Thread nD τ) none Set.univ (m := rtM) (Finset.subset_univ _)) $$ H1; iintro H1
  iapply (Rounds.wp_wait_rest_token 𝒱₀ ER (ringRd m ρ) (c : Thread nD τ) none (κ := K (c, 2))
      (wpE_waitDma2_eq 𝒱₀ (c : Thread nD τ) none Set.univ) (Set.mem_univ _) () (O := o2 c) (W := (insert (SemLoc.dma (landQ 0), ()) (insert (SemLoc.dma (sendQ 0), ()) (insert (SemLoc.reg barS, ()) W)))) (R := 0) (m := 0) (T := ∅)
      (by rw [Nat.zero_add, expect_send m ρ c 1])) $$ [HcS1 HO HatS1]
  · isplitr; · iexact HIs1
    isplitl [HcS1]; · iexact HcS1
    isplitl [HO]; · iexact HO
    isplitr; · iapply (mayWait_of c (.dma (sendQ 1)) 3 (o2 c) (by show _ - 7 ≤ _; decide) (fun g u h => o2_pos h)); iexact Hlev
    iexact HatS1
  iintro ⟨HO, HatS1, -, Hpay⟩
  ihave Hp := (Entails.of_eq (rest_send m ρ c 1)) $$ Hpay
  unfold sendPay
  icases Hp with ⟨%fb1, Hs1⟩
  iapply (Rounds.wp_wait_rest_token 𝒱₀ ER (ringRd m ρ) (c : Thread nD τ) none (κ := K (c, 5))
      (wpE_waitDma2_eq 𝒱₀ (c : Thread nD τ) none Set.univ) (Set.mem_univ _) () (O := o2 c) (W := (insert (SemLoc.dma (sendQ 1), ()) (insert (SemLoc.dma (landQ 0), ()) (insert (SemLoc.dma (sendQ 0), ()) (insert (SemLoc.reg barS, ()) W))))) (R := 0) (m := 0) (T := ∅)
      (by rw [Nat.zero_add, expect_land m ρ c 1])) $$ [HcL1 HO HatL1]
  · isplitr; · iexact HIl1
    isplitl [HcL1]; · iexact HcL1
    isplitl [HO]; · iexact HO
    isplitr; · iapply (mayWait_of c (.dma (landQ 1)) 3 (o2 c) (by show _ - 7 ≤ _; decide) (fun g u h => o2_pos h)); iexact Hlev
    iexact HatL1
  iintro ⟨HO, HatL1, -, Hpay⟩
  ihave Hp := (Entails.of_eq (rest_land m ρ c 1)) $$ Hpay
  unfold landPay
  icases Hp with ⟨%fa1, %hfa1, Hl1⟩
  unfold lPts
  iapply (wp_load_rect 𝒱₀ (c : Thread nD τ) none Set.univ (m := lM) (r := slot 1) (by rw [access_set_l])) $$ Hl1; iintro Hl1
  rw [hfa1]
  unfold sPts
  iapply (wp_load_rect 𝒱₀ (c : Thread nD τ) none Set.univ (m := sM) (r := slot 2) (by rw [access_set_s])) $$ Hs2; iintro Hs2
  iapply (wp_store 𝒱₀ (c : Thread nD τ) none Set.univ (m := sM) (r := slot 2) (Mk := Finset.univ) (by rw [View.setOn_univ, access_set_s])) $$ Hs2; iintro Hs2
  unfold o2
  iapply (wp_send_slot m ρ c _ (dev5_eq c) 2 (K (c, 3)) (K (nxt c, 6)) _ fn
      (View.read_write_univ _ _) (o3 c) (insert (SemLoc.dma (landQ 1), ()) (insert (SemLoc.dma (sendQ 1), ()) (insert (SemLoc.dma (landQ 0), ()) (insert (SemLoc.dma (sendQ 0), ()) (insert (SemLoc.reg barS, ()) W)))))) $$ [Hs2 Hn2 HO HtS2 HtN2]
  · isplitr; · iexact HIs2
    isplitr; · iexact HIn2
    isplitl [Hs2]; · unfold sPts; iexact Hs2
    isplitl [Hn2]; · unfold lPts; iexact Hn2
    isplitl [HO]; · iexact HO
    isplitl [HtS2]; · iexact HtS2
    isplitr; · iexact HrS2
    isplitl [HtN2]; · iexact HtN2
    iexact HrN2
  iintro ⟨HcS2, HO⟩
  -- the device's own chunk, the shared product, and what arrived in landing slot 2
  iapply (wp_load 𝒱₀ (c : Thread nD τ) none Set.univ (m := xM) (Finset.subset_univ _)) $$ H0; iintro H0
  iapply (wp_load 𝒱₀ (c : Thread nD τ) none Set.univ (m := ixM) (Finset.subset_univ _)) $$ H2; iintro H2
  iapply (wp_load 𝒱₀ (c : Thread nD τ) none Set.univ (m := rtM) (Finset.subset_univ _)) $$ H1; iintro H1
  iapply (wp_load 𝒱₀ (c : Thread nD τ) none Set.univ (m := xM) (Finset.subset_univ _)) $$ H0; iintro H0
  iapply (wp_load 𝒱₀ (c : Thread nD τ) none Set.univ (m := swM) (Finset.subset_univ _)) $$ H4; iintro H4
  iapply (Rounds.wp_wait_rest_token 𝒱₀ ER (ringRd m ρ) (c : Thread nD τ) none (κ := K (c, 3))
      (wpE_waitDma2_eq 𝒱₀ (c : Thread nD τ) none Set.univ) (Set.mem_univ _) () (O := o3 c) (W := (insert (SemLoc.dma (landQ 1), ()) (insert (SemLoc.dma (sendQ 1), ()) (insert (SemLoc.dma (landQ 0), ()) (insert (SemLoc.dma (sendQ 0), ()) (insert (SemLoc.reg barS, ()) W)))))) (R := 0) (m := 0) (T := ∅)
      (by rw [Nat.zero_add, expect_send m ρ c 2])) $$ [HcS2 HO HatS2]
  · isplitr; · iexact HIs2
    isplitl [HcS2]; · iexact HcS2
    isplitl [HO]; · iexact HO
    isplitr; · iapply (mayWait_of c (.dma (sendQ 2)) 4 (o3 c) (by show _ - 7 ≤ _; decide) (fun g u h => absurd h (Nat.lt_irrefl 0))); iexact Hlev
    iexact HatS2
  iintro ⟨HO, HatS2, -, Hpay⟩
  ihave Hp := (Entails.of_eq (rest_send m ρ c 2)) $$ Hpay
  unfold sendPay
  icases Hp with ⟨%fb2, Hs2⟩
  iapply (Rounds.wp_wait_rest_token 𝒱₀ ER (ringRd m ρ) (c : Thread nD τ) none (κ := K (c, 6))
      (wpE_waitDma2_eq 𝒱₀ (c : Thread nD τ) none Set.univ) (Set.mem_univ _) () (O := o3 c) (W := (insert (SemLoc.dma (sendQ 2), ()) (insert (SemLoc.dma (landQ 1), ()) (insert (SemLoc.dma (sendQ 1), ()) (insert (SemLoc.dma (landQ 0), ()) (insert (SemLoc.dma (sendQ 0), ()) (insert (SemLoc.reg barS, ()) W))))))) (R := 0) (m := 0) (T := ∅)
      (by rw [Nat.zero_add, expect_land m ρ c 2])) $$ [HcL2 HO HatL2]
  · isplitr; · iexact HIl2
    isplitl [HcL2]; · iexact HcL2
    isplitl [HO]; · iexact HO
    isplitr; · iapply (mayWait_of c (.dma (landQ 2)) 4 (o3 c) (by show _ - 7 ≤ _; decide) (fun g u h => absurd h (Nat.lt_irrefl 0))); iexact Hlev
    iexact HatL2
  iintro ⟨HO, HatL2, -, Hpay⟩
  ihave Hp := (Entails.of_eq (rest_land m ρ c 2)) $$ Hpay
  unfold landPay
  icases Hp with ⟨%fa2, %hfa2, Hl2⟩
  unfold lPts
  iapply (wp_load_rect 𝒱₀ (c : Thread nD τ) none Set.univ (m := lM) (r := slot 2) (by rw [access_set_l])) $$ Hl2; iintro Hl2
  rw [hfa2]
  iapply (wp_load 𝒱₀ (c : Thread nD τ) none Set.univ (m := oM) (Finset.subset_univ _)) $$ H5; iintro H5
  iapply (wp_store 𝒱₀ (c : Thread nD τ) none Set.univ (m := oM) (r := Rect.unit (s := S512x1024) ![0, 0] S512x1024.size inb_S512x1024_S512x1024_0_0) (Mk := Finset.univ) (Finset.subset_univ _)) $$ H5; iintro H5
  rw [write_out]
  -- every cell closes at zero
  imod (Rounds.cell_close ER (ringRd m ρ) (Set.mem_univ (K (c, 1))) (fun h => h) (R := 0 + 1) (duties_later m ρ (sendCell c 0))) $$ [HatS0] with HzS0
  · isplitr; · iexact HIs0
    iexact HatS0
  imod (Rounds.cell_close ER (ringRd m ρ) (Set.mem_univ (K (c, 2))) (fun h => h) (R := 0 + 1) (duties_later m ρ (sendCell c 1))) $$ [HatS1] with HzS1
  · isplitr; · iexact HIs1
    iexact HatS1
  imod (Rounds.cell_close ER (ringRd m ρ) (Set.mem_univ (K (c, 3))) (fun h => h) (R := 0 + 1) (duties_later m ρ (sendCell c 2))) $$ [HatS2] with HzS2
  · isplitr; · iexact HIs2
    iexact HatS2
  imod (Rounds.cell_close ER (ringRd m ρ) (Set.mem_univ (K (c, 4))) (fun h => h) (R := 0 + 1) (duties_later m ρ (landCell c 0))) $$ [HatL0] with HzL0
  · isplitr; · iexact HIl0
    iexact HatL0
  imod (Rounds.cell_close ER (ringRd m ρ) (Set.mem_univ (K (c, 5))) (fun h => h) (R := 0 + 1) (duties_later m ρ (landCell c 1))) $$ [HatL1] with HzL1
  · isplitr; · iexact HIl1
    iexact HatL1
  imod (Rounds.cell_close ER (ringRd m ρ) (Set.mem_univ (K (c, 6))) (fun h => h) (R := 0 + 1) (duties_later m ρ (landCell c 2))) $$ [HatL2] with HzL2
  · isplitr; · iexact HIl2
    iexact HatL2
  imod (Rounds.cell_close ER (ringRd m ρ) (Set.mem_univ (K (c, 0))) (fun h => h) (R := 0 + 1) (duties_later m ρ (barCell c))) $$ [HatB] with HzB
  · isplitr; · iexact HIbar
    iexact HatB
  rw [wp_ret]; imodintro
  iapply Hk
  unfold bodyPost Φ₁ scratch Dat.owesAt Pipeline.owesWithin
  rw [show (dats m ρ 0 c).owed t₀.succ = o3 c from rfl]
  isplitl [Hs0 Hs1 Hs2 Hl0 Hl1 Hl2 HzS0 HzS1 HzS2 HzL0 HzL1 HzL2 HzB]
  · isplitl [Hs0 Hs1 Hs2 Hl0 Hl1 Hl2]
    · isplitl [Hs0 Hs1 Hs2]
      · iapply (join_s c fb0 fb1 fb2)
        unfold sPts
        isplitl [Hs0]; · iexact Hs0
        isplitl [Hs1]; · iexact Hs1
        iexact Hs2
      · iapply (join_l c fa0 fa1 fa2)
        unfold lPts
        isplitl [Hl0]; · iexact Hl0
        isplitl [Hl1]; · iexact Hl1
        iexact Hl2
    isplitl [HzB]; · iexact HzB
    isplitl [HzS0]; · iexact HzS0
    isplitl [HzS1]; · iexact HzS1
    isplitl [HzS2]; · iexact HzS2
    isplitl [HzL0]; · iexact HzL0
    isplitl [HzL1] <;> iassumption
  isplitl [HO]
  · iexists (insert (SemLoc.dma (landQ 2), ()) (insert (SemLoc.dma (sendQ 2), ()) (insert (SemLoc.dma (landQ 1), ()) (insert (SemLoc.dma (sendQ 1), ()) (insert (SemLoc.dma (landQ 0), ()) (insert (SemLoc.dma (sendQ 0), ()) (insert (SemLoc.reg barS, ()) W)))))))
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

set_option maxRecDepth 4000 in
/-- The launch theorem's obligation for the body. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hc, Hlev⟩, Hscr⟩, Ho, Hw⟩
  iapply (sound_body m ρ K c fun _ => bodyPost m ρ c)
  unfold bodyPre
  isplitr []
  · isplitl [Hg Hc Hlev Hscr]
    · isplitl [Hg]; · iexact Hg
      isplitl [Hc]; · iexact Hc
      isplitl [Hlev]; · iexact Hlev
      iexact Hscr
    isplitl [Ho]; · iexact Ho
    iexact Hw
  · iintro H; iexact H

end Body

end Cert.KernelIdealRun

end
-- ==== Proof.Ideal.Launch.lean ====
/-
# The launch: from the four devices' start to the final memory

The launch deals every device its share of the ring (positions, tokens, invariants), every device runs its body, and the
final memory holds the computed block on each device, every other array unchanged and every counter at zero.
-/
module

public import proofs.«01_k».proof.Proof.Ideal.Body
public import Idealize.ShloMosaic.Lib.Pipeline.CollectiveSegs

@[expose] public section

set_option maxRecDepth 16384

noncomputable section

namespace Cert.KernelIdealRun

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 7 → GSem nD τ sig) := by
  rintro ⟨c, k⟩ ⟨c', k'⟩ h
  have h1 : c = c' := congrArg (fun g : GSem nD τ sig => g.1.1) h
  subst h1
  have h2 : csem k = csem k' := congrArg Prod.snd h
  have : k = k' := by clear h; revert k k'; decide
  subst this; rfl
def ringCells : Finset (GSem nD τ sig) := Finset.univ.map ⟨kcell, kcell_injective⟩

/-- The tokens minted for a device's own cells: which cell, and which of its duties. -/
abbrev tokCell : Fin 8 → Fin 7 := fun | 0 => 0 | 1 => 0 | 2 => 1 | 3 => 2 | 4 => 3 | 5 => 4 | 6 => 5 | 7 => 6
abbrev tokDuty : Fin 8 → Bool := fun | 1 => true | _ => false
abbrev tokOf (cj : Dev nD × Fin 8) : GSem nD τ sig × ℕ × Bool := (kcell (cj.1, tokCell cj.2), 0, tokDuty cj.2)
theorem tokOf_injective : Function.Injective (tokOf : Dev nD × Fin 8 → GSem nD τ sig × ℕ × Bool) := by
  rintro ⟨c, j⟩ ⟨c', j'⟩ h
  have hk := kcell_injective (congrArg (fun x : GSem nD τ sig × ℕ × Bool => x.1) h)
  have h1 : c = c' := congrArg Prod.fst hk
  have h2 : tokCell j = tokCell j' := congrArg Prod.snd hk
  have h3 : tokDuty j = tokDuty j' := congrArg (fun x : GSem nD τ sig × ℕ × Bool => x.2.2) h
  subst h1
  have : j = j' := by clear h hk; revert j j'; decide
  subst this; rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The tokens of a device's own cells. -/
def toks (c : Dev nD) : sProp 𝕄 :=
  iprop(dutyTok ER (barCell c) 0 false ∗ dutyTok ER (barCell c) 0 true
    ∗ dutyTok ER (sendCell c 0) 0 false ∗ dutyTok ER (sendCell c 1) 0 false ∗ dutyTok ER (sendCell c 2) 0 false
    ∗ dutyTok ER (landCell c 0) 0 false ∗ dutyTok ER (landCell c 1) 0 false ∗ dutyTok ER (landCell c 2) 0 false)

/-- What the launch element deals a device, and what the step over all devices makes of it. -/
def G (c : Dev nD) : sProp 𝕄 :=
  iprop((bigSep Finset.univ fun k : Fin 7 => roundState ER (ringRd m ρ) (kcell (c, k)) 0)
    ∗ (bigSep Finset.univ fun k : Fin 7 => iprop(atPos ER (kcell (c, k)) 0 ∅ 0 ∗ reached ER (kcell (c, k)) 0)) ∗ toks c)
def G' (c : Dev nD) : sProp 𝕄 := iprop(∃ K, ghost m ρ K c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin8]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
      ∗ semVal (landCell c 0) 0 ∗ semVal (landCell c 1) 0 ∗ semVal (landCell c 2) 0) := by
  rw [Pipeline.ownSems0_eq_of_list c osem [0, 1, 2, 3, 4, 5] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨HO, HB⟩
  isplitl [HB]; · iexact HB
  iexact HO

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 7 → ℕ) : sProp 𝕄 :=
  iprop((bigSep Finset.univ fun ck : Dev nD × Fin 7 => cellInv ER (ringRd m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (ringRd m ρ) (K ck) (kcell ck) : sProp 𝕄)) ⊢ cellInv ER (ringRd m ρ) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- The tokens a device pays with, and with its positions all that is its own. -/
def payToks (c : Dev nD) : sProp 𝕄 :=
  iprop(dutyTok ER (barCell (nxt c)) 0 false ∗ dutyTok ER (barCell (prv c)) 0 true
      ∗ dutyTok ER (landCell (nxt c) 0) 0 false ∗ dutyTok ER (landCell (nxt c) 1) 0 false ∗ dutyTok ER (landCell (nxt c) 2) 0 false
      ∗ dutyTok ER (sendCell c 0) 0 false ∗ dutyTok ER (sendCell c 1) 0 false ∗ dutyTok ER (sendCell c 2) 0 false)
def linear (c : Dev nD) : sProp 𝕄 :=
  iprop((atPos ER (barCell c) 0 ∅ 0 ∗ atPos ER (sendCell c 0) 0 ∅ 0 ∗ atPos ER (sendCell c 1) 0 ∅ 0 ∗ atPos ER (sendCell c 2) 0 ∅ 0
      ∗ atPos ER (landCell c 0) 0 ∅ 0 ∗ atPos ER (landCell c 1) 0 ∅ 0 ∗ atPos ER (landCell c 2) 0 ∅ 0) ∗ payToks c)

theorem ghost_intro (K : Dev nD × Fin 7 → ℕ) (c : Dev nD) : iprop(records m ρ K ∗ linear c) ⊢ G' m ρ c := by
  unfold records linear payToks G' ghost invs
  iintro ⟨⟨#HI, #HR⟩, Hat, Htk⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (c, 5)); iexact HI
    isplitr; · iapply (inv_at m ρ K (c, 6)); iexact HI
    isplitr; · iapply (inv_at m ρ K (nxt c, 0)); iexact HI
    isplitr; · iapply (inv_at m ρ K (prv c, 0)); iexact HI
    isplitr; · iapply (inv_at m ρ K (nxt c, 4)); iexact HI
    isplitr; · iapply (inv_at m ρ K (nxt c, 5)); iexact HI
    iapply (inv_at m ρ K (nxt c, 6)); iexact HI
  isplitl [Hat]; · iexact Hat
  isplitr
  · isplitr; · iapply (reached_at (F := F) (nxt c, 0)); iexact HR
    isplitr; · iapply (reached_at (F := F) (prv c, 0)); iexact HR
    isplitr; · iapply (reached_at (F := F) (nxt c, 4)); iexact HR
    isplitr; · iapply (reached_at (F := F) (nxt c, 5)); iexact HR
    isplitr; · iapply (reached_at (F := F) (nxt c, 6)); iexact HR
    isplitr; · iapply (reached_at (F := F) (c, 1)); iexact HR
    isplitr; · iapply (reached_at (F := F) (c, 2)); iexact HR
    iapply (reached_at (F := F) (c, 3)); iexact HR
  iexact Htk

/-- The tokens dealt around the ring: a barrier's first and the landing tokens to the left, a barrier's second to the right. -/
theorem toks_around : (bigSep Finset.univ fun c : Dev nD => (toks c : sProp 𝕄)) ⊢ bigSep Finset.univ fun c : Dev nD => payToks c := by
  unfold toks payToks
  simp only [bigSep_sep']
  rw [bigSep_univ_equiv around (fun c : Dev nD => (dutyTok ER (barCell c) 0 false : sProp 𝕄)),
    bigSep_univ_equiv around.symm (fun c : Dev nD => (dutyTok ER (barCell c) 0 true : sProp 𝕄)),
    bigSep_univ_equiv around (fun c : Dev nD => (dutyTok ER (landCell c 0) 0 false : sProp 𝕄)),
    bigSep_univ_equiv around (fun c : Dev nD => (dutyTok ER (landCell c 1) 0 false : sProp 𝕄)),
    bigSep_univ_equiv around (fun c : Dev nD => (dutyTok ER (landCell c 2) 0 false : sProp 𝕄))]
  iintro ⟨H1, H2, H3, H4, H5, H6, H7, H8⟩
  isplitl [H1]; · iexact H1
  isplitl [H2]; · iexact H2
  isplitl [H6]; · iexact H6
  isplitl [H7]; · iexact H7
  isplitl [H8]; · iexact H8
  isplitl [H3]; · iexact H3
  isplitl [H4]; · iexact H4
  iexact H5

theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (ringRd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (ringRd m ρ) κ (kcell ck) : sProp 𝕄))) $$ HI
  icases HK with ⟨%K, #HI⟩
  ihave Htk := (toks_around (F := F)) $$ Htok
  iapply (bigSep_with (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear; rw [bigSep_fin7])))
    isplitl [Hat]; · iexact Hat
    iexact Htk

/-- The step over all devices: every cell's invariant allocated, every device left with its share. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

theorem tally_at (d c : Dev nD) (s s' : SemLoc sig) (n : ℕ) :
    (tallyAt ((d : Thread nD τ), s) () n : CellTallies nD τ sig Unit) ((c : Thread nD τ), s') () = if d = c ∧ s = s' then n else 0 := by
  rw [tallyAt_apply]
  by_cases h : d = c ∧ s = s'
  · rw [if_pos h, if_pos ⟨by rw [h.1, h.2], rfl⟩]
  · rw [if_neg h, if_neg]
    rintro ⟨h', -⟩
    exact h ⟨(congrArg (fun g : GSem nD τ sig => g.1.1) h').symm, (congrArg Prod.snd h').symm⟩

theorem nxt_eq_iff (d c : Dev nD) : nxt d = c ↔ d = prv c := ⟨fun h => by rw [← h, prv_nxt], fun h => by rw [h, nxt_prv]⟩
theorem prv_eq_iff (d c : Dev nD) : prv d = c ↔ d = nxt c := ⟨fun h => by rw [← h, nxt_prv], fun h => by rw [h, prv_nxt]⟩

/-- What device `d` owes device `c` at launch, cell by cell. -/
theorem owed_at (d c : Dev nD) (s : SemLoc sig) : O₀ d ((c : Thread nD τ), s) () =
    (if d = prv c ∧ .dma (landQ 2) = s then N else 0) + (if d = prv c ∧ .dma (landQ 1) = s then N else 0)
      + (if d = prv c ∧ .dma (landQ 0) = s then N else 0) + (if d = prv c ∧ .reg barS = s then 1 else 0) + (if d = nxt c ∧ .reg barS = s then 1 else 0) := by
  unfold O₀ oB o0 o1 o2 o3
  simp only [Pi.add_apply, Finsupp.add_apply, tally_at, nxt_eq_iff, prv_eq_iff]
  simp

theorem owed_bar (d c : Dev nD) : O₀ d (barCell c) () = (if d = prv c then 1 else 0) + (if d = nxt c then 1 else 0) := by
  rw [owed_at]; simp
theorem land_inj (t t' : Fin 3) : (SemLoc.dma (landQ t) : SemLoc sig) = .dma (landQ t') ↔ t = t' := by revert t t'; decide
theorem owed_land (d c : Dev nD) (t : Fin 3) : O₀ d (landCell c t) () = if d = prv c then N else 0 := by
  rw [owed_at]; simp only [land_inj]
  fin_cases t <;> simp

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
theorem launch_land (c : Dev nD) (t : Fin 3) :
    tallyOn (landCell c t) (launchCredit (Pipeline.owing O₀) 0 (landCell c t)) = (tallyAt (landCell c t) () N : CellTallies nD τ sig Unit) := by
  unfold tallyAt; refine congrArg _ (Finsupp.ext fun u => ?_); cases u
  rw [Pipeline.launchCredit_owing, Finsupp.single_eq_same, Finset.sum_congr rfl fun d _ => owed_land d c t, Finset.sum_ite_eq' Finset.univ (prv c) fun _ => N,
    if_pos (Finset.mem_univ _)]

theorem creds (c : Dev nD) : (Pipeline.launchCred O₀ c : sProp 𝕄) ⊢ credits c := by
  unfold Pipeline.launchCred credits
  rw [bigSep_univ_at _ (SemLoc.reg barS), launch_bar, ← launch_land, ← launch_land, ← launch_land]
  refine sep_mono_right ?_
  rw [← Finset.insert_erase (s := Finset.univ.erase (SemLoc.reg barS)) (a := SemLoc.dma (landQ 0)) (by decide), bigSep_insert (Finset.notMem_erase _ _)]
  refine sep_mono_right ?_
  rw [← Finset.insert_erase (s := (Finset.univ.erase (SemLoc.reg barS)).erase (SemLoc.dma (landQ 0))) (a := SemLoc.dma (landQ 1)) (by decide), bigSep_insert (Finset.notMem_erase _ _)]
  refine sep_mono_right ?_
  exact bigSep_elim (by decide)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch
  iintro ⟨Hr, HzB, Hz⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters, at any float values, the four devices' run ends with every window's array at
    `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arrays the run only reads hold after it what they held. -/
theorem finalA_in (c : Dev nD) (w : Fin 6) (hw : (cfg0.win w).isOut = false) : finalA m ρ c w = (s₀ m ρ).mem ((cfg0.win w).arr.view.loc (c : Thread nD τ)) :=
  (dats (F := F) m ρ 0 c).arrAt_in w hw _

end Cert.KernelIdealRun

end
-- ==== Proof.Value.Chunk.lean ====
/-
# One device's part of a chunk

The body works out the same thing four times, in four differently cut payloads: for 512 rows of the activations, the
softmax over the router's scores kept at the row's own expert, and the sum over the device's eight experts of the rows
scaled by the kept weight and multiplied into the expert. `chunkOf` writes it once; `part0` to `part3` are it, with what
the ring brought added.
-/
module

public import proofs.«01_k».proof.Proof.Machine.Launch

@[expose] public section

set_option maxRecDepth 16384

noncomputable section

namespace Cert.KernelIdealRun

open Cert.KernelIdeal Cert.KernelIdeal.Gen
open Idealize.ShloMosaic

variable {F : FTy → Type} [FloatOps F]

/-- Each row's weight at the device's local expert `k`: the kept weights summed over the lane of that expert alone. -/
def weightCol (p k : BitVec 32) (pr : FVec F S512x32 .f32) : FVec F S512x1 .f32 :=
  shapeCast S512x1 (multiReduction .add [1] S512
    (select (cmpi .eq lanes (broadcast S512x32 (Scalar.addi (Scalar.muli p 8#32) k))) pr (broadcast S512x32 (Scalar.ofBits .f32 0x00000000#32)))
    0x00000000#32 reduces_S512x32_S512 (.inl rfl) rfl) shapeCasts_S512_S512x1

/-- The rows scaled by their weights at local expert `k`, multiplied into that expert. -/
def expertTerm (p k : BitVec 32) (x : FVec F S512x512 .bf16) (pr : FVec F S512x32 .f32) (W : FVec F S512x1024 .bf16) : FVec F S512x1024 .f32 :=
  matmul dot_S512x512_S512x1024_S512x1024_1_0_0_1_n_n none
    (truncf .bf16 (mulf (extf .f32 x bitsLt_bf16_f32) (broadcastTo S512x512 (weightCol p k pr) broadcasts_S512x1_S512x512)) bitsLt_bf16_f32)
    W (constant S512x1024 .f32 0x00000000#32)

/-- The device's part of a chunk: its eight experts' terms, added in order onto zero. -/
def chunkOf (p : BitVec 32) (W : Fin 8 → FVec F S512x1024 .bf16) (x : Vec F S512x512 .bf16) (i : Vec F S512x1 .i32) (r : Vec F S512x32 .bf16) :
    FVec F S512x1024 .f32 :=
  addf (addf (addf (addf (addf (addf (addf (addf (k0_pay11 (F := F))
    (expertTerm p 0#32 (k0_pay9 x) (k0_pay10 x i r) (W 0))) (expertTerm p 1#32 (k0_pay9 x) (k0_pay10 x i r) (W 1)))
    (expertTerm p 2#32 (k0_pay9 x) (k0_pay10 x i r) (W 2))) (expertTerm p 3#32 (k0_pay9 x) (k0_pay10 x i r) (W 3)))
    (expertTerm p 4#32 (k0_pay9 x) (k0_pay10 x i r) (W 4))) (expertTerm p 5#32 (k0_pay9 x) (k0_pay10 x i r) (W 5)))
    (expertTerm p 6#32 (k0_pay9 x) (k0_pay10 x i r) (W 6))) (expertTerm p 7#32 (k0_pay9 x) (k0_pay10 x i r) (W 7))

/-- Slot 0 is filled with the first chunk's part, rounded. -/
theorem part0_eq (p : BitVec 32) (W : Fin 8 → FVec F S512x1024 .bf16) (x : Vec F S512x512 .bf16) (i : Vec F S512x1 .i32) (r : Vec F S512x32 .bf16) :
    part0 p W x i r = shapeCast S1x512x1024 (truncf .bf16 (chunkOf p W x i r) bitsLt_bf16_f32) shapeCasts_S512x1024_S1x512x1024 := rfl

/-- Slot 1 with the second chunk's part on top of what arrived, rounded. -/
theorem part1_eq (p : BitVec 32) (W : Fin 8 → FVec F S512x1024 .bf16) (x : Vec F S512x512 .bf16) (i : Vec F S512x1 .i32) (r : Vec F S512x32 .bf16)
    (a : Vec F S1x512x1024 .bf16) :
    part1 p W x i r a = shapeCast S1x512x1024 (truncf .bf16 (addf (chunkOf p W x i r)
      (extf .f32 (shapeCast S512x1024 a shapeCasts_S1x512x1024_S512x1024) bitsLt_bf16_f32)) bitsLt_bf16_f32) shapeCasts_S512x1024_S1x512x1024 := rfl

/-- Slot 2 with the third chunk's part on top of what arrived, rounded. -/
theorem part2_eq (p : BitVec 32) (W : Fin 8 → FVec F S512x1024 .bf16) (x : Vec F S512x512 .bf16) (i : Vec F S512x1 .i32) (r : Vec F S512x32 .bf16)
    (a : Vec F S1x512x1024 .bf16) :
    part2 p W x i r a = shapeCast S1x512x1024 (truncf .bf16 (addf (chunkOf p W x i r)
      (extf .f32 (shapeCast S512x1024 a shapeCasts_S1x512x1024_S512x1024) bitsLt_bf16_f32)) bitsLt_bf16_f32) shapeCasts_S512x1024_S1x512x1024 := rfl

/-- The result's block: what arrived, the device's own chunk's part, and the shared expert's product. -/
theorem part3_eq (p : BitVec 32) (W : Fin 8 → FVec F S512x1024 .bf16) (x : Vec F S512x512 .bf16) (i : Vec F S512x1 .i32) (r : Vec F S512x32 .bf16)
    (s : Vec F S512x1024 .bf16) (a : Vec F S1x512x1024 .bf16) :
    part3 p W x i r s a = addf (addf (extf .f32 (shapeCast S512x1024 a shapeCasts_S1x512x1024_S512x1024) bitsLt_bf16_f32) (chunkOf p W x i r))
      (matmul dot_S512x512_S512x1024_S512x1024_1_0_0_1_n_n none (k0_pay9 x) (shapeCast S512x1024 s shapeCasts_S512x1024_S512x1024)
        (constant S512x1024 .f32 0x00000000#32)) := rfl

end Cert.KernelIdealRun

end
-- ==== Proof.Value.Rows.lean ====
/-
# A chunk's rows over the extended reals

At the ideal instance one row of a device's part of a chunk is its expert's term or zero: the router's scores of the row,
their softmax, the weight at the row's own expert, and the sum over the device's eight experts in which at most that one
expert has a weight other than zero. A weight is a nonnegative real when the scores are real, so it goes through the
product's sum whatever the experts hold.
-/
module

public import proofs.«01_k».proof.Proof.Value.Chunk
public import Idealize.ShloMosaic.Lib.ValueIdx
public import Idealize.ShloMosaic.Lib.MatmulPlain
public import Idealize.ShloMosaic.Lib.WordCmp
public import Idealize.ShloMosaic.Lib.Pipeline.Value

@[expose] public section

set_option maxRecDepth 16384

noncomputable section

namespace Cert.KernelIdealRun

open Cert.KernelIdeal Cert.KernelIdeal.Gen
open Idealize.ShloMosaic Idealize.ShloMosaic.ValueIdx
open scoped BigOperators

/-! ## The mathematics of one row -/

/-- A row's score at expert `e`: the row's product with that column of the router. -/
def scoreOf (x : Fin 512 → EReal) (R : Fin 512 → Fin 32 → EReal) (e : Fin 32) : EReal := ∑ k, x k * R k e

/-- The largest score. -/
def topOf (s : Fin 32 → EReal) : EReal := (Finset.univ : Finset (Fin 32)).fold max ⊥ s

/-- The softmax of the scores at expert `e`. -/
def weightOf (s : Fin 32 → EReal) (e : Fin 32) : EReal :=
  Ideal.div (Ideal.exp (s e - topOf s)) (∑ e', Ideal.exp (s e' - topOf s))

/-- The row's routed part at column values `W`: its weight at `e` times its product with the column. -/
def routedOf (x : Fin 512 → EReal) (R : Fin 512 → Fin 32 → EReal) (e : Fin 32) (W : Fin 512 → EReal) : EReal :=
  weightOf (scoreOf x R) e * ∑ t, x t * W t

/-- A finite sum of reals, as extended reals, is a real. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a t ha ih => rw [Finset.sum_insert ha, Finset.sum_insert ha, ih, EReal.coe_add]

/-- A row of reals scores real numbers. -/
theorem scoreOf_real (x : Fin 512 → EReal) (R : Fin 512 → Fin 32 → EReal) (hx : ∀ k, ∃ r : ℝ, x k = r) (hR : ∀ k e, ∃ r : ℝ, R k e = r)
    (e : Fin 32) : ∃ r : ℝ, scoreOf x R e = r := by
  choose xr hx using hx
  choose Rr hR using hR
  refine ⟨∑ k, xr k * Rr k e, ?_⟩
  unfold scoreOf
  rw [← sum_coe]
  exact Finset.sum_congr rfl fun k _ => by rw [hx, hR, EReal.coe_mul]

/-- The largest of real scores is one of them. -/
theorem topOf_mem (s : Fin 32 → EReal) : ∃ e, topOf s = s e := by
  obtain ⟨e, _, he⟩ := Finset.exists_mem_eq_sup (Finset.univ : Finset (Fin 32)) Finset.univ_nonempty s
  exact ⟨e, he⟩

/-- Real scores have nonnegative real weights. -/
theorem weightOf_real (s : Fin 32 → EReal) (hs : ∀ e, ∃ r : ℝ, s e = r) (e : Fin 32) : ∃ r : ℝ, 0 ≤ r ∧ weightOf s e = r := by
  obtain ⟨e₀, h₀⟩ := topOf_mem s
  choose sr hs using hs
  have hexp : ∀ e', Ideal.exp (s e' - topOf s) = ((Real.exp (sr e' - sr e₀) : ℝ) : EReal) := fun e' => by
    rw [h₀, hs, hs, ← EReal.coe_sub]; rfl
  have hpos : (0 : ℝ) < ∑ e', Real.exp (sr e' - sr e₀) := Finset.sum_pos (fun _ _ => Real.exp_pos _) Finset.univ_nonempty
  refine ⟨Real.exp (sr e - sr e₀) * (1 / ∑ e', Real.exp (sr e' - sr e₀)), mul_nonneg (Real.exp_pos _).le (one_div_nonneg.mpr hpos.le), ?_⟩
  unfold weightOf
  rw [show (∑ e', Ideal.exp (s e' - topOf s)) = ((∑ e', Real.exp (sr e' - sr e₀) : ℝ) : EReal) from
    (Finset.sum_congr rfl fun e' _ => hexp e').trans (sum_coe _ _), hexp, Ideal.div_coe hpos.ne', EReal.coe_mul]

/-- A nonnegative real goes through a finite sum of extended reals. -/
theorem real_mul_sum {ι : Type*} (s : Finset ι) (w : ℝ) (hw : 0 ≤ w) (f : ι → EReal) : ∑ i ∈ s, (w : EReal) * f i = (w : EReal) * ∑ i ∈ s, f i := by
  classical
  induction s using Finset.induction_on with
  | empty => simp
  | insert a t ha ih =>
    rw [Finset.sum_insert ha, Finset.sum_insert ha, ih,
      EReal.left_distrib_of_nonneg_of_ne_top (EReal.coe_nonneg.mpr hw) (EReal.coe_ne_top w)]

/-- A row scaled by a nonnegative real weight and multiplied into a column is the weight times the product. -/
theorem scaled_product (x W : Fin 512 → EReal) (w : ℝ) (hw : 0 ≤ w) : ∑ t, x t * (w : EReal) * W t = (w : EReal) * ∑ t, x t * W t := by
  rw [← real_mul_sum _ w hw]
  exact Finset.sum_congr rfl fun t _ => by rw [mul_comm (x t) (w : EReal), mul_assoc]

/-! ## The payloads at an index -/

/-- The index a reduction along the second axis puts in: row `a`, lane `e`. -/
theorem lift_row (a : Fin 512) (e : Fin 32) : reduces_S512x32_S512.lift (ix1 a) e = (ix2 a e : S512x32.Idx) := by
  funext d; refine Fin.ext ?_
  match d with
  | ⟨0, _⟩ => rfl
  | ⟨1, _⟩ => rfl

/-- A vector of row values stood up as a column reads the row's value. -/
theorem column_apply {α : Type} (v : S512.Idx → α) (a : Fin 512) (z : Fin 1) :
    shapeCast S512x1 v shapeCasts_S512_S512x1 (ix2 a z) = v (ix1 a) :=
  shapeCast_apply v _ _ _ (by obtain rfl : z = 0 := Subsingleton.elim _ _; rw [Shape.rowMajor_val_one, Shape.rowMajor_val_two]; simp)

/-- A column spread over the lanes reads the row's value. -/
theorem spread32_apply {α : Type} (v : S512x1.Idx → α) (a : Fin 512) (e : Fin 32) :
    broadcastTo S512x32 v broadcasts_S512x1_S512x32 (ix2 a e) = v (ix2 a (0 : Fin 1)) :=
  broadcastTo_apply v _ _ _ fun d => by match d with | ⟨0, _⟩ => rfl | ⟨1, _⟩ => rfl

/-- The same over the activations' columns. -/
theorem spread512_apply {α : Type} (v : S512x1.Idx → α) (a : Fin 512) (e : Fin 512) :
    broadcastTo S512x512 v broadcasts_S512x1_S512x512 (ix2 a e) = v (ix2 a (0 : Fin 1)) :=
  broadcastTo_apply v _ _ _ fun d => by match d with | ⟨0, _⟩ => rfl | ⟨1, _⟩ => rfl

/-- The lane numbers. -/
theorem lanes_apply (a : Fin 512) (e : Fin 32) : lanes (ix2 a e) = BitVec.ofNat 32 e.val := iota_single_apply _ _ _ _ _ _

/-- The scores payload at a row and a lane. -/
theorem scores_apply (x : FVec Ideal S512x512 .bf16) (r : FVec Ideal S512x32 .bf16) (a : Fin 512) (e : Fin 32) :
    matmul (F := Ideal) dot_S512x512_S512x32_S512x32_1_0_0_1_n_n none x r (constant S512x32 .f32 0x00000000#32) (ix2 a e)
      = scoreOf (fun k => x (ix2 a k)) (fun k e => r (ix2 k e)) e := by
  refine (Ideal.matmul_plain_apply none x r _ a e).trans ?_
  rw [constant_apply, Ideal.ofBits_zero_f32, zero_add]
  rfl

/-- The largest score of each row, as the payload takes it. -/
theorem rowTop_apply (s : FVec Ideal S512x32 .f32) (a : Fin 512) (hφ : FKind.Formats .f32)
    (hacc : (0xFF800000#32 : BitVec 32) = FKind.maximumf.neutral .f32 hφ) :
    multiReduction .maximumf [1] S512 s 0xFF800000#32 reduces_S512x32_S512 hφ hacc (ix1 a) = topOf fun e => s (ix2 a e) := by
  refine (Ideal.multiReduction_maximumf_single s _ reduces_S512x32_S512 hφ hacc (ix1 a)).trans ?_
  rw [show (FloatOps.ofBits .f32 0xFF800000#32 : Ideal .f32) = (⊥ : EReal) from by
    show Ideal.ofBits .f32 0xFF800000#32 = ⊥; simp [Ideal.ofBits, Ideal.ieee]]
  exact congrArg (fun f : Fin 32 → EReal => (Finset.univ : Finset (Fin 32)).fold max ⊥ f) (funext fun e => congrArg s (lift_row a e))

/-- The sum of each row, as the payload takes it. -/
theorem rowSum_apply (s : FVec Ideal S512x32 .f32) (a : Fin 512) (hφ : FKind.Formats .f32)
    (hacc : (0x00000000#32 : BitVec 32) = FKind.add.neutral .f32 hφ) :
    multiReduction .add [1] S512 s 0x00000000#32 reduces_S512x32_S512 hφ hacc (ix1 a) = ∑ e : Fin 32, s (ix2 a e) := by
  refine (Ideal.multiReduction_add_single s _ reduces_S512x32_S512 hφ hacc (ix1 a)).trans ?_
  exact congrArg (fun f : Fin 32 → EReal => ∑ e, f e) (funext fun e => congrArg s (lift_row a e))

/-- A bit that says two words are equal selects by that equality. -/
theorem select_eq {α : Type} (u v : BitVec 32) (p q : α) : Scalar.select (IntOp.cmpi .eq u v) p q = if u = v then p else q := by
  rw [WordCmp.cmpi_eq_eq]
  by_cases h : u = v
  · rw [if_pos h, decide_eq_true h]; rfl
  · rw [if_neg h, decide_eq_false h]; rfl

/-- The kept weights: the softmax at the row's own expert, zero at the others. -/
theorem kept_apply (x : FVec Ideal S512x512 .bf16) (i : IVec S512x1 32) (r : FVec Ideal S512x32 .bf16) (a : Fin 512) (e : Fin 32) :
    k0_pay10 (F := Ideal) x i r (ix2 a e)
      = if BitVec.ofNat 32 e.val = i (ix2 a (0 : Fin 1)) then weightOf (scoreOf (fun k => x (ix2 a k)) (fun k e => r (ix2 k e))) e else (0 : EReal) := by
  unfold k0_pay10 k0_pay9
  simp only [shapeCast_self]
  rw [select_apply]
  show Scalar.select (IntOp.cmpi .eq (lanes (ix2 a e)) _) (Ideal.div (Ideal.exp _) _) _ = _
  rw [select_eq, lanes_apply]
  congr 1
  · refine congrArg (BitVec.ofNat 32 e.val = ·) (spread32_apply i a e)
  · have hd : ∀ e : Fin 32, subf (matmul (F := Ideal) dot_S512x512_S512x32_S512x32_1_0_0_1_n_n none x r (constant S512x32 .f32 0x00000000#32))
        (broadcastTo S512x32 (shapeCast S512x1 (multiReduction .maximumf [1] S512
          (matmul (F := Ideal) dot_S512x512_S512x32_S512x32_1_0_0_1_n_n none x r (constant S512x32 .f32 0x00000000#32)) 0xFF800000#32
          reduces_S512x32_S512 (.inl rfl) rfl) shapeCasts_S512_S512x1) broadcasts_S512x1_S512x32) (ix2 a e)
        = scoreOf (fun k => x (ix2 a k)) (fun k e => r (ix2 k e)) e - topOf (scoreOf (fun k => x (ix2 a k)) (fun k e => r (ix2 k e))) := fun e =>
      congrArg₂ (fun u v : EReal => u - v) (scores_apply x r a e)
        ((spread32_apply _ a e).trans ((column_apply _ a 0).trans ((rowTop_apply _ a _ _).trans (congrArg topOf (funext fun e => scores_apply x r a e)))))
    exact congrArg₂ Ideal.div (congrArg Ideal.exp (hd e)) ((spread32_apply _ a e).trans ((column_apply _ a 0).trans
      ((rowSum_apply _ a _ _).trans (Finset.sum_congr rfl fun e _ => congrArg Ideal.exp (hd e)))))
  · show Ideal.ofBits .f32 0x00000000#32 = 0
    exact Ideal.ofBits_zero_f32

/-- The weight at a local expert: the kept weights over that expert's lane. -/
theorem weightCol_apply (p k : BitVec 32) (pr : FVec Ideal S512x32 .f32) (a : Fin 512) (z : Fin 1) :
    weightCol p k pr (ix2 a z) = ∑ e : Fin 32, if BitVec.ofNat 32 e.val = p * 8#32 + k then pr (ix2 a e) else (0 : EReal) := by
  unfold weightCol
  refine (column_apply _ a z).trans ((rowSum_apply _ a _ _).trans ?_)
  refine Finset.sum_congr rfl fun e _ => ?_
  rw [select_apply]
  show Scalar.select (IntOp.cmpi .eq (lanes (ix2 a e)) (p * 8#32 + k)) _ (Ideal.ofBits .f32 0x00000000#32) = _
  rw [select_eq, lanes_apply, Ideal.ofBits_zero_f32]

/-- A local expert's term at an index. -/
theorem expertTerm_apply (p k : BitVec 32) (x : FVec Ideal S512x512 .bf16) (pr : FVec Ideal S512x32 .f32) (W : FVec Ideal S512x1024 .bf16)
    (a : Fin 512) (b : Fin 1024) :
    expertTerm p k x pr W (ix2 a b) = ∑ t : Fin 512, x (ix2 a t) * weightCol p k pr (ix2 a (0 : Fin 1)) * W (ix2 t b) := by
  unfold expertTerm
  refine (Ideal.matmul_plain_apply none _ W _ a b).trans ?_
  rw [constant_apply, Ideal.ofBits_zero_f32, zero_add]
  refine Finset.sum_congr rfl fun t _ => ?_
  rw [truncf_apply, mulf_apply, extf_apply, spread512_apply]

end Cert.KernelIdealRun

end
-- ==== Proof.Value.Part.lean ====
/-
# A device's part of a chunk, read at an index

A device holds experts 8c to 8c + 7. Its part of a chunk at a row is the row's routed part when the row's expert is one
of those, and zero when it is not.
-/
module

public import proofs.«01_k».proof.Proof.Value.Rows

@[expose] public section

set_option maxRecDepth 16384

noncomputable section

namespace Cert.KernelIdealRun

open Cert.KernelIdeal Cert.KernelIdeal.Gen
open Idealize.ShloMosaic Idealize.ShloMosaic.ValueIdx
open scoped BigOperators

/-- The device's place on the ring is its number. -/
theorem place_eq (c : Dev nD) : place c = BitVec.ofNat 32 c.val := by revert c; decide

/-- The lane of device `c`'s local expert `k` is lane `8c + k`. -/
theorem lane_iff (c : Fin 4) (k : Fin 8) (e : Fin 32) :
    BitVec.ofNat 32 e.val = BitVec.ofNat 32 c.val * 8#32 + BitVec.ofNat 32 k.val ↔ e = ⟨8 * c.val + k.val, by omega⟩ := by
  rw [← BitVec.toNat_inj, Fin.ext_iff, BitVec.toNat_add, BitVec.toNat_mul]
  simp only [BitVec.toNat_ofNat]
  have := e.isLt; have := c.isLt; have := k.isLt
  omega

/-- Lane numbers are different words. -/
theorem lane_inj (e e' : Fin 32) : BitVec.ofNat 32 e.val = BitVec.ofNat 32 e'.val ↔ e = e' := by
  rw [← BitVec.toNat_inj, Fin.ext_iff]
  simp only [BitVec.toNat_ofNat]
  have := e.isLt; have := e'.isLt
  omega

section Row
variable (c : Fin 4) (x : FVec Ideal S512x512 .bf16) (i : IVec S512x1 32) (r : FVec Ideal S512x32 .bf16) (a : Fin 512) (e₀ : Fin 32)
  (hi : i (ix2 a (0 : Fin 1)) = BitVec.ofNat 32 e₀.val)
include hi

/-- The weight of a row at a local expert: the softmax's if it is the row's expert, zero if not. -/
theorem weightCol_routed (k : Fin 8) :
    weightCol (BitVec.ofNat 32 c.val) (BitVec.ofNat 32 k.val) (k0_pay10 (F := Ideal) x i r) (ix2 a (0 : Fin 1))
      = if e₀ = ⟨8 * c.val + k.val, by omega⟩ then weightOf (scoreOf (fun k => x (ix2 a k)) (fun k e => r (ix2 k e))) e₀ else (0 : EReal) := by
  rw [weightCol_apply]
  simp only [kept_apply, hi, lane_iff, lane_inj]
  rw [Finset.sum_ite_eq' Finset.univ]
  rw [if_pos (Finset.mem_univ _)]
  by_cases h : e₀ = ⟨8 * c.val + k.val, by omega⟩
  · rw [if_pos h, if_pos h.symm, ← h]
  · rw [if_neg h, if_neg (fun hh => h hh.symm)]

variable (hx : ∀ t, ∃ q : ℝ, x (ix2 a t) = (q : EReal)) (hr : ∀ t e, ∃ q : ℝ, r (ix2 t e) = (q : EReal))
include hx hr

/-- A local expert's term at a row: the row's routed part if it is the row's expert, zero if not. -/
theorem expertTerm_routed (k : Fin 8) (W : FVec Ideal S512x1024 .bf16) (b : Fin 1024) :
    expertTerm (BitVec.ofNat 32 c.val) (BitVec.ofNat 32 k.val) x (k0_pay10 (F := Ideal) x i r) W (ix2 a b)
      = if e₀ = ⟨8 * c.val + k.val, by omega⟩ then
          routedOf (fun t => x (ix2 a t)) (fun t e => r (ix2 t e)) e₀ (fun t => W (ix2 t b)) else (0 : EReal) := by
  rw [expertTerm_apply, weightCol_routed c x i r a e₀ hi]
  split
  · obtain ⟨w, hw, he⟩ := weightOf_real _ (scoreOf_real (fun t => x (ix2 a t)) (fun t e => r (ix2 t e)) hx hr) e₀
    unfold routedOf
    rw [he]
    exact scaled_product (fun t => x (ix2 a t)) (fun t => W (ix2 t b)) w hw
  · exact Finset.sum_eq_zero fun t _ => by rw [mul_zero, zero_mul]

/-- The device's part of the chunk at a row: the row's routed part if its expert is one of the device's, zero if not. -/
theorem chunkOf_routed (W : Fin 8 → FVec Ideal S512x1024 .bf16) (b : Fin 1024) (G : Fin 32 → Fin 512 → EReal)
    (hW : ∀ (k : Fin 8) t, W k (ix2 t b) = G ⟨8 * c.val + k.val, by omega⟩ t) :
    chunkOf (BitVec.ofNat 32 c.val) W x i r (ix2 a b)
      = if e₀.val / 8 = c.val then routedOf (fun t => x (ix2 a t)) (fun t e => r (ix2 t e)) e₀ (G e₀) else (0 : EReal) := by
  have hT : ∀ k : Fin 8, expertTerm (BitVec.ofNat 32 c.val) (BitVec.ofNat 32 k.val) (k0_pay9 x) (k0_pay10 (F := Ideal) x i r) (W k) (ix2 a b)
      = if e₀.val = 8 * c.val + k.val then routedOf (fun t => x (ix2 a t)) (fun t e => r (ix2 t e)) e₀ (G e₀) else (0 : EReal) := fun k => by
    rw [show k0_pay9 x = x from shapeCast_self x _, expertTerm_routed c x i r a e₀ hi hx hr k (W k) b]
    by_cases h : e₀ = ⟨8 * c.val + k.val, by omega⟩
    · rw [if_pos h, if_pos (congrArg Fin.val h)]
      exact congrArg _ (funext fun t => (hW k t).trans (by rw [h]))
    · rw [if_neg h, if_neg (fun hh => h (Fin.ext hh))]
  generalize routedOf (fun t => x (ix2 a t)) (fun t e => r (ix2 t e)) e₀ (G e₀) = V at hT ⊢
  have hz : (k0_pay11 (F := Ideal) (ix2 a b) : EReal) = 0 := Ideal.ofBits_zero_f32
  have hsum : chunkOf (BitVec.ofNat 32 c.val) W x i r (ix2 a b)
      = ((((((((0 + (if e₀.val = 8 * c.val + 0 then V else 0)) + (if e₀.val = 8 * c.val + 1 then V else 0))
        + (if e₀.val = 8 * c.val + 2 then V else 0)) + (if e₀.val = 8 * c.val + 3 then V else 0)) + (if e₀.val = 8 * c.val + 4 then V else 0))
        + (if e₀.val = 8 * c.val + 5 then V else 0)) + (if e₀.val = 8 * c.val + 6 then V else 0)) + (if e₀.val = 8 * c.val + 7 then V else 0) : EReal) := by
    unfold chunkOf
    simp only [addf_apply]
    exact congrArg₂ (fun u v : EReal => u + v) (congrArg₂ (fun u v : EReal => u + v) (congrArg₂ (fun u v : EReal => u + v)
      (congrArg₂ (fun u v : EReal => u + v) (congrArg₂ (fun u v : EReal => u + v) (congrArg₂ (fun u v : EReal => u + v)
      (congrArg₂ (fun u v : EReal => u + v) (congrArg₂ (fun u v : EReal => u + v) hz (hT 0)) (hT 1)) (hT 2)) (hT 3)) (hT 4)) (hT 5)) (hT 6)) (hT 7)
  rw [hsum]
  by_cases h : e₀.val / 8 = c.val
  · rw [if_pos h]
    obtain ⟨k, hk, he⟩ : ∃ k, k < 8 ∧ e₀.val = 8 * c.val + k := ⟨e₀.val % 8, by omega, by omega⟩
    interval_cases k <;> simp [he]
  · have hn : ∀ k, k < 8 → ¬ e₀.val = 8 * c.val + k := fun k hk hh => h (by omega)
    rw [if_neg h, if_neg (hn 0 (by omega)), if_neg (hn 1 (by omega)), if_neg (hn 2 (by omega)), if_neg (hn 3 (by omega)),
      if_neg (hn 4 (by omega)), if_neg (hn 5 (by omega)), if_neg (hn 6 (by omega)), if_neg (hn 7 (by omega))]
    simp only [add_zero]

end Row

end Cert.KernelIdealRun

end
-- ==== Proof.Value.Result.lean ====
/-
# What the ring leaves in the result

The four chunks a device handles are the four blocks of 512 rows, and a chunk's sum has passed through every device when
it comes to the device of the same number. So a device's block of the result has, in each row, the parts of all four
devices and the shared expert's product; one of the four parts is the row's routed part and the others are zero.
-/
module

public import proofs.«01_k».proof.Proof.Value.Part
public import Idealize.ShloMosaic.Lib.Layout

@[expose] public section

set_option maxRecDepth 16384

noncomputable section

namespace Cert.KernelIdealRun

open Cert.KernelIdeal Cert.KernelIdeal.Gen
open Idealize.ShloMosaic Idealize.ShloMosaic.ValueIdx
open scoped BigOperators

section Loads
variable {F : FTy → Type} [FloatOps F]
variable (m : (ℓ : Loc nD τ sig) → Buf (Elt F) ℓ) (ρ : Dev nD → PrngReg)

/-- The activations' window is the whole array. -/
theorem xIn_eq (c : Dev nD) : xIn m ρ c = m ((c.tc : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _
/-- So is the router's. -/
theorem rtIn_eq (c : Dev nD) : rtIn m ρ c = m ((c.tc : Thread nD τ).loc main_arg1) :=
  Memref.read_access_unit_zero (Elt F) main_arg1 (off := fun a => (win0_1.index (0 : Fin 1)) a * main_arg1.ty.shape.size a)
    (funext fun a => by fin_cases a <;> decide) (fun a => by fin_cases a <;> decide) _
/-- So is the routes'. -/
theorem ixIn_eq (c : Dev nD) : ixIn m ρ c = m ((c.tc : Thread nD τ).loc main_arg2) :=
  Memref.read_access_unit_zero (Elt F) main_arg2 (off := fun a => (win0_2.index (0 : Fin 1)) a * main_arg2.ty.shape.size a)
    (funext fun a => by fin_cases a <;> decide) (fun a => by fin_cases a <;> decide) _
/-- So is the experts'. -/
theorem ewIn_eq (c : Dev nD) : ewIn m ρ c = m ((c.tc : Thread nD τ).loc main_arg3) :=
  Memref.read_access_unit_zero (Elt F) main_arg3 (off := fun a => (win0_3.index (0 : Fin 1)) a * main_arg3.ty.shape.size a)
    (funext fun a => by fin_cases a <;> decide) (fun a => by fin_cases a <;> decide) _
/-- So is the shared expert's. -/
theorem swIn_eq (c : Dev nD) : swIn m ρ c = m ((c.tc : Thread nD τ).loc main_arg4) :=
  Memref.read_access_unit_zero (Elt F) main_arg4 (off := fun a => (win0_4.index (0 : Fin 1)) a * main_arg4.ty.shape.size a)
    (funext fun a => by fin_cases a <;> decide) (fun a => by fin_cases a <;> decide) _

/-- Row `a` of block `g` of 512 rows. -/
def rowAt (g : Fin 4) (a : Fin 512) : Fin 2048 := ⟨512 * g.val + a.val, by omega⟩

/-- A load of the 512 rows of the activations from row `512 g` on reads, at row `a`, row `512 g + a`. -/
theorem load_x {off : Fin 2 → ℕ} (g : Fin 4) (h : off = ![512 * g.val, 0]) (inb : ∀ a, off a + S512x512.size a ≤ S2048x512.size a)
    (f : (cc0_stg0_0 : Ref sig .tc).ty.Contents (Elt F)) (a t : Fin 512) :
    xM.view.readAt (Elt F) (Rect.unit (s := S2048x512) off S512x512.size inb).toLoadRect f (ix2 a t) = f (ix2 (rowAt g a) t) := by
  subst h
  rw [View.readAt_apply]
  refine congrArg f (funext fun d => Fin.ext ?_)
  match d with
  | ⟨0, _⟩ => show 512 * g.val + 1 * a.val = 512 * g.val + a.val; rw [one_mul]
  | ⟨1, _⟩ => show 0 + 1 * t.val = t.val; omega

/-- The same of the routes. -/
theorem load_i {off : Fin 2 → ℕ} (g : Fin 4) (h : off = ![512 * g.val, 0]) (inb : ∀ a, off a + S512x1.size a ≤ S2048x1.size a)
    (f : (cc0_stg2_0 : Ref sig .tc).ty.Contents (Elt F)) (a : Fin 512) :
    ixM.view.readAt (Elt F) (Rect.unit (s := S2048x1) off S512x1.size inb).toLoadRect f (ix2 a (0 : Fin 1)) = f (ix2 (rowAt g a) (0 : Fin 1)) := by
  subst h
  rw [View.readAt_apply]
  refine congrArg f (funext fun d => Fin.ext ?_)
  match d with
  | ⟨0, _⟩ => show 512 * g.val + 1 * a.val = 512 * g.val + a.val; rw [one_mul]
  | ⟨1, _⟩ => rfl

/-- The first chunk is the left neighbour's block of rows. -/
theorem off0 (c : Dev nD) : k0_off1 c 0#32 = ![512 * (prv c).val, 0] ∧ k0_off2 c 0#32 = ![512 * (prv c).val, 0] :=
  ⟨(k0_off1_eq c 0).trans (by revert c; decide), (k0_off2_eq c 0).trans (by revert c; decide)⟩
/-- The second is the block of the left neighbour's left neighbour. -/
theorem off1 (c : Dev nD) : k0_off1 c 1#32 = ![512 * (prv (prv c)).val, 0] ∧ k0_off2 c 1#32 = ![512 * (prv (prv c)).val, 0] :=
  ⟨(k0_off1_eq c 1).trans (by revert c; decide), (k0_off2_eq c 1).trans (by revert c; decide)⟩
/-- The third is the one before that. -/
theorem off2 (c : Dev nD) : k0_off1 c 2#32 = ![512 * (prv (prv (prv c))).val, 0] ∧ k0_off2 c 2#32 = ![512 * (prv (prv (prv c))).val, 0] :=
  ⟨(k0_off1_eq c 2).trans (by revert c; decide), (k0_off2_eq c 2).trans (by revert c; decide)⟩

/-- A window holding the whole router reads the router. -/
theorem rt_apply (c : Dev nD) (t : Fin 512) (e : Fin 32) : rt m ρ c (ix2 t e) = m ((c.tc : Thread nD τ).loc main_arg1) (ix2 t e) := by
  unfold rt
  rw [View.readAt_apply, rtIn_eq]
  refine congrArg (m ((c.tc : Thread nD τ).loc main_arg1)) (funext fun d => Fin.ext ?_)
  match d with
  | ⟨0, _⟩ => show 0 + 1 * t.val = t.val; omega
  | ⟨1, _⟩ => show 0 + 1 * e.val = e.val; omega

/-- The shared expert as loaded is the shared expert. -/
theorem sw_apply (c : Dev nD) (t : Fin 512) (b : Fin 1024) : sw m ρ c (ix2 t b) = m ((c.tc : Thread nD τ).loc main_arg4) (ix2 t b) := by
  unfold sw
  rw [View.readAt_apply, swIn_eq]
  refine congrArg (m ((c.tc : Thread nD τ).loc main_arg4)) (funext fun d => Fin.ext ?_)
  match d with
  | ⟨0, _⟩ => show 0 + 1 * t.val = t.val; omega
  | ⟨1, _⟩ => show 0 + 1 * b.val = b.val; omega

/-- Loading local expert `k` and dropping its unit axis reads that expert. -/
theorem load_e {off : Fin 3 → ℕ} (k : Fin 8) (h : off = ![k.val, 0, 0]) (inb : ∀ a, off a + S1x512x1024.size a ≤ S8x512x1024.size a)
    (f : (cc0_stg3_0 : Ref sig .tc).ty.Contents (Elt F)) (t : Fin 512) (b : Fin 1024) :
    shapeCast S512x1024 (ewM.view.readAt (Elt F) (Rect.unit (s := S8x512x1024) off S1x512x1024.size inb).toLoadRect f : S1x512x1024.Idx → Elt F .bf16)
      shapeCasts_S1x512x1024_S512x1024 (ix2 t b) = f (ix3 k t b) := by
  subst h
  refine (shapeCast_dropUnit_apply (n := 2) ![512, 1024] _ _ (ix2 t b)).trans ?_
  rw [View.readAt_apply]
  refine congrArg f (funext fun d => Fin.ext ?_)
  match d with
  | ⟨0, _⟩ => show k.val + 1 * 0 = k.val; omega
  | ⟨1, _⟩ => show 0 + 1 * t.val = t.val; omega
  | ⟨2, _⟩ => show 0 + 1 * b.val = b.val; omega

/-- The device's local expert `k` is slab `k` of its array. -/
theorem ew_apply (c : Dev nD) (k : Fin 8) (t : Fin 512) (b : Fin 1024) :
    ew m ρ c k (ix2 t b) = m ((c.tc : Thread nD τ).loc main_arg3) (ix3 k t b) := by
  rw [← ewIn_eq m ρ c]
  match k with
  | 0 => exact load_e (F := F) (off := ![0, 0, 0]) 0 rfl inb_S8x512x1024_S1x512x1024_0_0_0 (ewIn m ρ c) t b
  | 1 => exact load_e (F := F) (off := ![1, 0, 0]) 1 rfl inb_S8x512x1024_S1x512x1024_1_0_0 (ewIn m ρ c) t b
  | 2 => exact load_e (F := F) (off := ![2, 0, 0]) 2 rfl inb_S8x512x1024_S1x512x1024_2_0_0 (ewIn m ρ c) t b
  | 3 => exact load_e (F := F) (off := ![3, 0, 0]) 3 rfl inb_S8x512x1024_S1x512x1024_3_0_0 (ewIn m ρ c) t b
  | 4 => exact load_e (F := F) (off := ![4, 0, 0]) 4 rfl inb_S8x512x1024_S1x512x1024_4_0_0 (ewIn m ρ c) t b
  | 5 => exact load_e (F := F) (off := ![5, 0, 0]) 5 rfl inb_S8x512x1024_S1x512x1024_5_0_0 (ewIn m ρ c) t b
  | 6 => exact load_e (F := F) (off := ![6, 0, 0]) 6 rfl inb_S8x512x1024_S1x512x1024_6_0_0 (ewIn m ρ c) t b
  | 7 => exact load_e (F := F) (off := ![7, 0, 0]) 7 rfl inb_S8x512x1024_S1x512x1024_7_0_0 (ewIn m ρ c) t b

/-- What a device's result buffer ends holding is what its body stored. -/
theorem finalA_out (c : Dev nD) : finalA m ρ c (5 : Fin 6) = outAt m ρ c := by
  have hr := fun f => Memref.read_access_unit_zero (Elt F) main_v1 (off := fun a => (win0_5.index (0 : Fin 1)) a * main_v1.ty.shape.size a)
    (funext fun a => by fin_cases a <;> decide) (fun a => by fin_cases a <;> decide) f
  have ho : (win0_5.blk (0 : Fin 1)).view.read (Elt F) (finalA m ρ c (5 : Fin 6)) = outAt m ρ c := by
    unfold finalA
    rw [show cfg0.N = ((0 : Fin 1) : Fin cfg0.N).val + 1 from rfl, (dats m ρ 0 c).arrAt_succ (5 : Fin 6) (0 : Fin 1),
      show (cfg0.win 5).flush (0 : Fin 1) = true from by decide, if_pos rfl]
    exact View.read_write_univ _ _
  exact (hr _).symm.trans ho

end Loads

section Ring
variable (m : (ℓ : Loc nD τ sig) → Buf (Elt Ideal) ℓ) (ρ : Dev nD → PrngReg)
variable (X : FVec Ideal S2048x512 .bf16) (R : FVec Ideal S512x32 .bf16) (I : IVec S2048x1 32) (E : FVec Ideal ⟨3, ![32, 512, 1024]⟩ .bf16)
  (S : FVec Ideal S512x1024 .bf16)

/-- Every device holds the activations, the router, the routes and the shared expert whole, and its eight of the experts;
    the activations and the router are real. -/
structure Holds : Prop where
  x : ∀ c : Dev nD, m ((c.tc : Thread nD τ).loc main_arg0) = X
  r : ∀ c : Dev nD, m ((c.tc : Thread nD τ).loc main_arg1) = R
  i : ∀ c : Dev nD, m ((c.tc : Thread nD τ).loc main_arg2) = I
  e : ∀ c : Dev nD, ∀ (k : Fin 8) t b, (m ((c.tc : Thread nD τ).loc main_arg3) : FVec Ideal S8x512x1024 .bf16) (ix3 k t b)
    = E (ix3 ⟨8 * c.val + k.val, by have := c.isLt; have := k.isLt; change c.val < 4 at *; omega⟩ t b)
  s : ∀ c : Dev nD, m ((c.tc : Thread nD τ).loc main_arg4) = S
  realX : ∀ n t, ∃ q : ℝ, X (ix2 n t) = (q : EReal)
  realR : ∀ t e, ∃ q : ℝ, R (ix2 t e) = (q : EReal)

/-- A row's routed part in column `b`. -/
def routedAt (n : Fin 2048) (e : Fin 32) (b : Fin 1024) : EReal :=
  routedOf (fun t => X (ix2 n t)) (fun t e => R (ix2 t e)) e (fun t => E (ix3 e t b))

variable {m X R I E S} (H : Holds m X R I E S)
include H

/-- A device's part of the chunk of rows `g`, from loads of those rows. -/
theorem part_apply (d : Dev nD) (g : Fin 4) (x : FVec Ideal S512x512 .bf16) (i : IVec S512x1 32) (a : Fin 512) (b : Fin 1024) (e₀ : Fin 32)
    (hx : ∀ t, x (ix2 a t) = X (ix2 (rowAt g a) t)) (hi : i (ix2 a (0 : Fin 1)) = I (ix2 (rowAt g a) (0 : Fin 1)))
    (he : I (ix2 (rowAt g a) (0 : Fin 1)) = BitVec.ofNat 32 e₀.val) :
    chunkOf (place d) (ew m ρ d) x i (rt m ρ d) (ix2 a b) = if e₀.val / 8 = d.val then routedAt X R E (rowAt g a) e₀ b else (0 : EReal) := by
  have hR : ∀ t e, rt m ρ d (ix2 t e) = R (ix2 t e) := fun t e => (rt_apply m ρ d t e).trans (congrFun (H.r d) _)
  rw [place_eq]
  refine (chunkOf_routed d x i (rt m ρ d) a e₀ (hi.trans he) (fun t => by rw [hx]; exact H.realX _ _) (fun t e => by rw [hR]; exact H.realR _ _)
    (ew m ρ d) b (fun e t => E (ix3 e t b)) (fun k t => (ew_apply m ρ d k t b).trans (H.e d k t b))).trans ?_
  simp only [hx, hR]
  rfl

/-- Device `d`'s first chunk as it is sent. -/
theorem sum0_apply (d : Dev nD) (a : Fin 512) (b : Fin 1024) (e₀ : Fin 32)
    (he : I (ix2 (rowAt (prv d) a) (0 : Fin 1)) = BitVec.ofNat 32 e₀.val) :
    shapeCast S512x1024 (sum0 m ρ d) shapeCasts_S1x512x1024_S512x1024 (ix2 a b)
      = if e₀.val / 8 = d.val then routedAt X R E (rowAt (prv d) a) e₀ b else (0 : EReal) := by
  unfold sum0
  rw [part0_eq, shapeCast_shapeCast]
  refine part_apply ρ H d (prv d) _ _ a b e₀ (fun t => ?_) ?_ he
  · exact (load_x (prv d) (off0 d).1 _ _ a t).trans (congrFun ((xIn_eq m ρ d).trans (H.x d)) _)
  · exact (load_i (prv d) (off0 d).2 _ _ a).trans (congrFun ((ixIn_eq m ρ d).trans (H.i d)) _)

/-- Device `d`'s second chunk as it is sent: its part and its left neighbour's. -/
theorem sum1_apply (d : Dev nD) (a : Fin 512) (b : Fin 1024) (e₀ : Fin 32)
    (he : I (ix2 (rowAt (prv (prv d)) a) (0 : Fin 1)) = BitVec.ofNat 32 e₀.val) :
    shapeCast S512x1024 (sum1 m ρ d) shapeCasts_S1x512x1024_S512x1024 (ix2 a b)
      = (if e₀.val / 8 = d.val then routedAt X R E (rowAt (prv (prv d)) a) e₀ b else (0 : EReal))
        + (if e₀.val / 8 = (prv d).val then routedAt X R E (rowAt (prv (prv d)) a) e₀ b else (0 : EReal)) := by
  unfold sum1
  rw [part1_eq, shapeCast_shapeCast]
  refine congrArg₂ (fun u v : EReal => u + v) (part_apply ρ H d (prv (prv d)) _ _ a b e₀ (fun t => ?_) ?_ he) (sum0_apply ρ H (prv d) a b e₀ he)
  · exact (load_x (prv (prv d)) (off1 d).1 _ _ a t).trans (congrFun ((xIn_eq m ρ d).trans (H.x d)) _)
  · exact (load_i (prv (prv d)) (off1 d).2 _ _ a).trans (congrFun ((ixIn_eq m ρ d).trans (H.i d)) _)

/-- Device `d`'s third chunk as it is sent: its part and those of the two devices before it. -/
theorem sum2_apply (d : Dev nD) (a : Fin 512) (b : Fin 1024) (e₀ : Fin 32)
    (he : I (ix2 (rowAt (prv (prv (prv d))) a) (0 : Fin 1)) = BitVec.ofNat 32 e₀.val) :
    shapeCast S512x1024 (sum2 m ρ d) shapeCasts_S1x512x1024_S512x1024 (ix2 a b)
      = (if e₀.val / 8 = d.val then routedAt X R E (rowAt (prv (prv (prv d))) a) e₀ b else (0 : EReal))
        + ((if e₀.val / 8 = (prv d).val then routedAt X R E (rowAt (prv (prv (prv d))) a) e₀ b else (0 : EReal))
          + (if e₀.val / 8 = (prv (prv d)).val then routedAt X R E (rowAt (prv (prv (prv d))) a) e₀ b else (0 : EReal))) := by
  unfold sum2
  rw [part2_eq, shapeCast_shapeCast]
  refine congrArg₂ (fun u v : EReal => u + v) (part_apply ρ H d (prv (prv (prv d))) _ _ a b e₀ (fun t => ?_) ?_ he)
    (sum1_apply ρ H (prv d) a b e₀ he)
  · exact (load_x (prv (prv (prv d))) (off2 d).1 _ _ a t).trans (congrFun ((xIn_eq m ρ d).trans (H.x d)) _)
  · exact (load_i (prv (prv (prv d))) (off2 d).2 _ _ a).trans (congrFun ((ixIn_eq m ρ d).trans (H.i d)) _)

omit H in
/-- Four steps to the left come back. -/
theorem prv_four (c : Dev nD) : prv (prv (prv (prv c))) = c := by revert c; decide

omit H in
/-- Of a device and the three before it, exactly one has a given place: the sum of a value kept at that place is the value. -/
theorem ring_sum (c : Dev nD) (q : ℕ) (hq : q < 4) (V : EReal) :
    ((if q = (prv c).val then V else 0) + ((if q = (prv (prv c)).val then V else 0) + (if q = (prv (prv (prv c))).val then V else 0)))
      + (if q = c.val then V else 0) = V := by
  have h : ∀ c : Dev nD, ∀ q : Fin 4,
      (q.val = c.val ∧ q.val ≠ (prv c).val ∧ q.val ≠ (prv (prv c)).val ∧ q.val ≠ (prv (prv (prv c))).val)
      ∨ (q.val ≠ c.val ∧ q.val = (prv c).val ∧ q.val ≠ (prv (prv c)).val ∧ q.val ≠ (prv (prv (prv c))).val)
      ∨ (q.val ≠ c.val ∧ q.val ≠ (prv c).val ∧ q.val = (prv (prv c)).val ∧ q.val ≠ (prv (prv (prv c))).val)
      ∨ (q.val ≠ c.val ∧ q.val ≠ (prv c).val ∧ q.val ≠ (prv (prv c)).val ∧ q.val = (prv (prv (prv c))).val) := by decide
  rcases h c ⟨q, hq⟩ with ⟨h0, h1, h2, h3⟩ | ⟨h0, h1, h2, h3⟩ | ⟨h0, h1, h2, h3⟩ | ⟨h0, h1, h2, h3⟩ <;> dsimp only at h0 h1 h2 h3
  · rw [if_pos h0, if_neg h1, if_neg h2, if_neg h3]; simp only [add_zero, zero_add]
  · rw [if_neg h0, if_pos h1, if_neg h2, if_neg h3]; simp only [add_zero]
  · rw [if_neg h0, if_neg h1, if_pos h2, if_neg h3]; simp only [add_zero, zero_add]
  · rw [if_neg h0, if_neg h1, if_neg h2, if_pos h3]; simp only [add_zero, zero_add]

/-- The device's block of the result: each row's routed part and its product with the shared expert. -/
theorem out_apply (c : Dev nD) (a : Fin 512) (b : Fin 1024) (e₀ : Fin 32) (he : I (ix2 (rowAt c a) (0 : Fin 1)) = BitVec.ofNat 32 e₀.val) :
    (outAt m ρ c : FVec Ideal S512x1024 .f32) (ix2 a b)
      = routedAt X R E (rowAt c a) e₀ b + ∑ t : Fin 512, X (ix2 (rowAt c a) t) * S (ix2 t b) := by
  have hx : ∀ t, x3 m ρ c (ix2 a t) = X (ix2 (rowAt c a) t) := fun t =>
    (load_x c (k0_off3_eq c) _ _ a t).trans (congrFun ((xIn_eq m ρ c).trans (H.x c)) _)
  have hi : i3 m ρ c (ix2 a (0 : Fin 1)) = I (ix2 (rowAt c a) (0 : Fin 1)) :=
    (load_i c (k0_off4_eq c) _ _ a).trans (congrFun ((ixIn_eq m ρ c).trans (H.i c)) _)
  have hs := sum2_apply ρ H (prv c) a b e₀ (by rw [prv_four]; exact he)
  rw [prv_four] at hs
  unfold outAt
  rw [part3_eq]
  refine congrArg₂ (fun u v : EReal => u + v)
    ((congrArg₂ (fun u v : EReal => u + v) hs (part_apply ρ H c c _ _ a b e₀ hx hi he)).trans
      (ring_sum c (e₀.val / 8) (by have := e₀.isLt; omega) _)) ?_
  refine (Ideal.matmul_plain_apply none _ _ _ a b).trans ?_
  rw [constant_apply, Ideal.ofBits_zero_f32, zero_add]
  refine Finset.sum_congr rfl fun t _ => ?_
  rw [show k0_pay9 (x3 m ρ c) = x3 m ρ c from shapeCast_self _ _, shapeCast_self, hx]
  exact congrArg _ ((sw_apply m ρ c t b).trans (congrFun (H.s c) _))

end Ring

end Cert.KernelIdealRun

end
-- ==== Proof.Value.Reference.lean ====
/-
# What the reference computes, read at an index

The reference takes each row's weight out of the whole softmax and each row's expert out of the whole array by the row's
route, and multiplies row by row. With the routes in range, an entry is the row's product with the shared expert and the
row's routed part, the same one a row of the ring's result has.
-/
module

public import proofs.«01_k».proof.Proof.Value.Result
public import proofs.«01_k».proof.Proof.Gen.ReferenceIdeal.Run
public import Idealize.ShloMosaic.Lib.KernelVsHost
public import Idealize.ShloMosaic.Lib.StackMember
public import Idealize.ShloMosaic.Lib.IdealHost

@[expose] public section

set_option maxRecDepth 16384

noncomputable section

namespace Cert.ReferenceIdealRun

open Cert.ReferenceIdeal Cert.ReferenceIdeal.Gen
open Idealize.ShloMosaic Idealize.ShloMosaic.ValueIdx
open Cert.KernelIdealRun (scoreOf topOf weightOf routedOf routedAt)
open scoped BigOperators

/-! ## The pieces of the reference -/

section Pieces
variable {F : FTy → Type} [FloatOps F]

/-- The router's scores of every row. -/
def scores (X : FVec F S2048x512 .bf16) (R : FVec F S512x32 .bf16) : FVec F S2048x32 .f32 :=
  Host.dotGeneral dot_S2048x512_S512x32_S2048x32_1_0_0_1_n_n none (extf .f32 X bitsLt_bf16_f32) (extf .f32 R bitsLt_bf16_f32)

/-- The scores less the row's largest, exponentiated. -/
def exps (X : FVec F S2048x512 .bf16) (R : FVec F S512x32 .bf16) : FVec F S2048x32 .f32 :=
  Host.exp (subf (scores X R) (broadcastInDim S2048x32 ![0, 1] bcast_S2048x1_S2048x32_0_1 (broadcastInDim S2048x1 ![0] bcast_S2048_S2048x1_0
    (Host.reduce FloatOps.maximumf (scores X R) (constant S_ .f32 0xFF800000#32) reducesTo_S2048x32_S2048_d1 h_S_))))

/-- The softmax of every row. -/
def probs (X : FVec F S2048x512 .bf16) (R : FVec F S512x32 .bf16) : FVec F S2048x32 .f32 :=
  Host.divf (exps X R) (broadcastInDim S2048x32 ![0, 1] bcast_S2048x1_S2048x32_0_1 (broadcastInDim S2048x1 ![0] bcast_S2048_S2048x1_0
    (Host.reduceAdd (exps X R) (constant S_ .f32 0x00000000#32) reducesTo_S2048x32_S2048_d1 h_S_)))

/-- The routes as the weights' gather takes them. -/
def routeW (I : IVec S2048x1 32) : IVec S2048x1x1 32 :=
  shapeCast _ (select (cmpi .slt I (broadcastInDim S2048x1 ![] bcast_S_S2048x1 (constantI S_ 32 0#32)))
    (addi I (broadcastInDim S2048x1 ![] bcast_S_S2048x1 (constantI S_ 32 32#32))) I) shapeCasts_S2048x1_S2048x1x1

/-- The routes as the experts' gather takes them. -/
def routeE (I : IVec S2048x1 32) : IVec S2048x1 32 :=
  broadcastInDim S2048x1 ![0] bcast_S2048_S2048x1_0 (select (cmpi .slt (shapeCast _ I shapeCasts_S2048x1_S2048)
    (broadcastInDim S2048 ![] bcast_S_S2048 (constantI S_ 32 0#32))) (addi (shapeCast _ I shapeCasts_S2048x1_S2048)
    (broadcastInDim S2048 ![] bcast_S_S2048 (constantI S_ 32 32#32))) (shapeCast _ I shapeCasts_S2048x1_S2048))

/-- The reference's result. -/
def refOut (X : FVec F S2048x512 .bf16) (R : FVec F S512x32 .bf16) (I : IVec S2048x1 32) (E : FVec F S32x512x1024 .bf16) (S : FVec F S512x1024 .bf16) :
    FVec F S2048x1024 .f32 :=
  addf (Host.dotGeneral dot_S2048x512_S512x1024_S2048x1024_1_0_0_1_n_n none (extf .f32 X bitsLt_bf16_f32) (extf .f32 S bitsLt_bf16_f32))
    (mulf (broadcastInDim S2048x1024 ![0, 1] bcast_S2048x1_S2048x1024_0_1
        (Host.gather gather_S2048x32_S2048x1x1_S2048x1_n_1_0_0_1_2_11 (probs X R) (routeW I)))
      (Host.dotGeneral dot_S2048x512_S2048x512x1024_S2048x1024_1_1_n_2_0_0 none (extf .f32 X bitsLt_bf16_f32)
        (extf .f32 (Host.gather gather_S32x512x1024_S2048x1_S2048x512x1024_12_0_n_n_0_1_15121024 E (routeE I)) bitsLt_bf16_f32)))

/-- The reference's run, its result named. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27) = refOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run m ρ

end Pieces

/-! ## The routes -/

/-- A lane number is not negative as a signed word, so the wrap for negative routes leaves it. -/
theorem lane_kept (e : Fin 32) : Scalar.select (IntOp.cmpi .slt (BitVec.ofNat 32 e.val) 0#32) (BitVec.ofNat 32 e.val + 32#32) (BitVec.ofNat 32 e.val)
    = BitVec.ofNat 32 e.val := by revert e; decide

/-- Read as a signed number and cut off at the last lane, a lane number is the lane. -/
theorem lane_clamp (e : Fin 32) : min (BitVec.ofNat 32 e.val).toInt.toNat 31 = e.val := by revert e; decide

/-- A route in range is not moved, as the weights' gather reads it. -/
theorem routeW_apply (I : IVec S2048x1 32) (n : Fin 2048) (e : Fin 32) (h : I (ix2 n (0 : Fin 1)) = BitVec.ofNat 32 e.val) :
    routeW I (ix3 n (0 : Fin 1) (0 : Fin 1)) = BitVec.ofNat 32 e.val := by
  unfold routeW
  refine (shapeCast_apply _ _ _ (ix2 n (0 : Fin 1)) (by rw [Shape.rowMajor_val_two, Shape.rowMajor_val_three]; simp)).trans ?_
  rw [select_apply]
  refine Eq.trans ?_ (lane_kept e)
  show Scalar.select (IntOp.cmpi .slt (I (ix2 n 0)) _) (I (ix2 n 0) + _) (I (ix2 n 0)) = _
  rw [h, broadcastInDim_scalar_apply, broadcastInDim_scalar_apply]
  rfl

/-- Nor as the experts' gather reads it. -/
theorem routeE_apply (I : IVec S2048x1 32) (n : Fin 2048) (e : Fin 32) (h : I (ix2 n (0 : Fin 1)) = BitVec.ofNat 32 e.val) :
    routeE I (ix2 n (0 : Fin 1)) = BitVec.ofNat 32 e.val := by
  unfold routeE
  refine (broadcastInDim_apply _ _ _ _ (ix1 n) fun d => by match d with | ⟨0, _⟩ => rfl).trans ?_
  have hc : shapeCast S2048 I shapeCasts_S2048x1_S2048 (ix1 n) = BitVec.ofNat 32 e.val :=
    (shapeCast_apply _ _ _ (ix2 n (0 : Fin 1)) (by rw [Shape.rowMajor_val_two, Shape.rowMajor_val_one]; simp)).trans h
  rw [select_apply]
  refine Eq.trans ?_ (lane_kept e)
  show Scalar.select (IntOp.cmpi .slt (shapeCast S2048 I _ (ix1 n)) _) (shapeCast S2048 I _ (ix1 n) + _) (shapeCast S2048 I _ (ix1 n)) = _
  rw [hc, broadcastInDim_scalar_apply, broadcastInDim_scalar_apply]
  rfl

/-! ## The two gathers -/

/-- The weights' gather reads row `n` of the softmax at the row's route. -/
theorem gatherW_apply {α : Type} (P : S2048x32.Idx → α) (J : IVec S2048x1x1 32) (n : Fin 2048) (e : Fin 32)
    (h : J (ix3 n (0 : Fin 1) (0 : Fin 1)) = BitVec.ofNat 32 e.val) :
    Host.gather gather_S2048x32_S2048x1x1_S2048x1_n_1_0_0_1_2_11 P J (ix2 n (0 : Fin 1)) = P (ix2 n e) := by
  unfold Host.gather
  refine congrArg P (funext fun d => Fin.ext ?_)
  show GatherDims.start _ _ J d + GatherDims.batchCoord _ _ d + GatherDims.offCoord _ _ d = _
  match d with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    exact (dif_pos (List.mem_singleton.mpr rfl)).trans rfl
  | ⟨1, _⟩ =>
    rw [GatherDims.batchCoord_eq_zero _ _ _ (fun h => absurd (congrArg Fin.val (List.mem_singleton.mp h)) (by norm_num)),
      GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    refine Eq.trans ?_ (lane_clamp e)
    rw [← h]
    refine congrArg (fun y => min (J y).toInt.toNat 31) (funext fun b => Fin.ext ?_)
    match b with
    | ⟨0, _⟩ => rfl
    | ⟨1, _⟩ => rfl
    | ⟨2, _⟩ => rfl

/-- The experts' gather reads the expert of row `n`'s route. -/
theorem gatherE_apply {α : Type} (P : S32x512x1024.Idx → α) (J : IVec S2048x1 32) (n : Fin 2048) (e : Fin 32) (t : Fin 512) (b : Fin 1024)
    (h : J (ix2 n (0 : Fin 1)) = BitVec.ofNat 32 e.val) :
    Host.gather gather_S32x512x1024_S2048x1_S2048x512x1024_12_0_n_n_0_1_15121024 P J (ix3 n t b) = P (ix3 e t b) := by
  unfold Host.gather
  refine congrArg P (funext fun d => Fin.ext ?_)
  show GatherDims.start _ _ J d + GatherDims.batchCoord _ _ d + GatherDims.offCoord _ _ d = _
  rw [GatherDims.batchCoord_eq_zero _ _ _ List.not_mem_nil, Nat.add_zero]
  match d with
  | ⟨0, _⟩ =>
    rw [GatherDims.offCoord_eq_zero _ _ _ (fun h => ((GatherDims.mem_sKept _ _).mp h).1 (List.mem_singleton.mpr rfl)), Nat.add_zero]
    unfold GatherDims.start
    refine (dif_pos (List.mem_singleton.mpr rfl)).trans ?_
    refine Eq.trans ?_ (lane_clamp e)
    rw [← h]
    refine congrArg (fun y => min (J y).toInt.toNat 31) (funext fun b' => Fin.ext ?_)
    match b' with
    | ⟨0, _⟩ => rfl
    | ⟨1, _⟩ => rfl
  | ⟨1, _⟩ =>
    unfold GatherDims.start
    exact (congrArg (fun u : ℕ => u + _) (dif_neg fun h => absurd (congrArg Fin.val (List.mem_singleton.mp h)) (by norm_num))).trans (Nat.zero_add _)
  | ⟨2, _⟩ =>
    unfold GatherDims.start
    exact (congrArg (fun u : ℕ => u + _) (dif_neg fun h => absurd (congrArg Fin.val (List.mem_singleton.mp h)) (by norm_num))).trans (Nat.zero_add _)

/-! ## The products and the softmax -/

/-- The row-by-row product: each row times its own matrix. -/
theorem rowDot_apply (A : FVec Ideal S2048x512 .f32) (B : FVec Ideal S2048x512x1024 .f32) (n : Fin 2048) (b : Fin 1024) :
    Host.dotGeneral (F := Ideal) dot_S2048x512_S2048x512x1024_S2048x1024_1_1_n_2_0_0 none A B (ix2 n b) = ∑ t : Fin 512, A (ix2 n t) * B (ix3 n t b) := by
  show FloatOps.dotGeneral _ none _ A B (ix2 n b) = _
  rw [Ideal.dotGeneral_apply, ← Equiv.sum_comp (contrEquiv1 dot_S2048x512_S2048x512x1024_S2048x1024_1_1_n_2_0_0 512 rfl rfl).symm]
  refine Finset.sum_congr rfl fun t _ => ?_
  have ht := contrEquiv1_symm_val dot_S2048x512_S2048x512x1024_S2048x1024_1_1_n_2_0_0 512 rfl rfl t
  refine congrArg₂ (fun u v : EReal => u * v) (congrArg A (funext fun d => Fin.ext ?_)) (congrArg B (funext fun d => Fin.ext ?_))
  · match d with
    | ⟨0, _⟩ => rfl
    | ⟨1, _⟩ => exact ht
  · match d with
    | ⟨0, _⟩ => rfl
    | ⟨1, _⟩ => exact ht
    | ⟨2, _⟩ => rfl

variable (X : FVec Ideal S2048x512 .bf16) (R : FVec Ideal S512x32 .bf16)

/-- A row's score. -/
theorem scores_apply (n : Fin 2048) (e : Fin 32) : scores X R (ix2 n e) = scoreOf (fun t => X (ix2 n t)) (fun t e => R (ix2 t e)) e :=
  StackMember.dotGeneral_plain_apply none _ _ n e

/-- The index a reduction along the second axis puts in: row `n`, lane `e`. -/
theorem lift_row (h : S2048x32.Reduces [1] S2048) (n : Fin 2048) (e : Fin 32) : h.lift (ix1 n) e = (ix2 n e : S2048x32.Idx) := by
  funext d; refine Fin.ext ?_
  match d with
  | ⟨0, _⟩ => rfl
  | ⟨1, _⟩ => rfl

/-- The reduction's shapes. -/
theorem reduces_row : S2048x32.Reduces [1] S2048 := by decide

/-- The largest of each row, as the reference takes it. -/
theorem rowTop_apply (s : FVec Ideal S2048x32 .f32) (n : Fin 2048) (hφ : FKind.Formats .f32)
    (hacc : (0xFF800000#32 : BitVec 32) = FKind.maximumf.neutral .f32 hφ) :
    Host.reduce FloatOps.maximumf s (constant S_ .f32 0xFF800000#32) reducesTo_S2048x32_S2048_d1 h_S_ (ix1 n) = topOf fun e => s (ix2 n e) := by
  refine (congrFun (hostReduce_maximumf_eq_multiReduction s 0xFF800000#32 reducesTo_S2048x32_S2048_d1 h_S_ reduces_row hφ hacc) (ix1 n)).trans ?_
  refine (Ideal.multiReduction_maximumf_single s _ reduces_row hφ hacc (ix1 n)).trans ?_
  rw [show (FloatOps.ofBits .f32 0xFF800000#32 : Ideal .f32) = (⊥ : EReal) from by
    show Ideal.ofBits .f32 0xFF800000#32 = ⊥; simp [Ideal.ofBits, Ideal.ieee]]
  exact congrArg (fun f : Fin 32 → EReal => (Finset.univ : Finset (Fin 32)).fold max ⊥ f) (funext fun e => congrArg s (lift_row _ n e))

/-- The sum of each row, as the reference takes it. -/
theorem rowSum_apply (s : FVec Ideal S2048x32 .f32) (n : Fin 2048) :
    Host.reduceAdd s (constant S_ .f32 0x00000000#32) reducesTo_S2048x32_S2048_d1 h_S_ (ix1 n) = ∑ e : Fin 32, s (ix2 n e) := by
  rw [hostReduceAdd_apply, constant_apply, Ideal.ofBits_zero_f32]
  refine (Ideal.hostReduceAdd_single _ reduces_row s 0 (ix1 n)).trans ?_
  rw [zero_add]
  exact congrArg (fun f : Fin 32 → EReal => ∑ e, f e) (funext fun e => congrArg s (lift_row _ n e))

/-- A row value stood up and spread over the lanes reads the row's value. -/
theorem spread_apply {α : Type} (v : S2048.Idx → α) (n : Fin 2048) (e : Fin 32) :
    broadcastInDim S2048x32 ![0, 1] bcast_S2048x1_S2048x32_0_1 (broadcastInDim S2048x1 ![0] bcast_S2048_S2048x1_0 v) (ix2 n e) = v (ix1 n) :=
  (broadcastInDim_apply _ _ _ _ (ix2 n (0 : Fin 1)) fun d => by match d with | ⟨0, _⟩ => rfl | ⟨1, _⟩ => rfl).trans
    (broadcastInDim_apply _ _ _ _ (ix1 n) fun d => by match d with | ⟨0, _⟩ => rfl)

/-- The reference's softmax at a row and an expert. -/
theorem probs_apply (n : Fin 2048) (e : Fin 32) : probs X R (ix2 n e) = weightOf (scoreOf (fun t => X (ix2 n t)) (fun t e => R (ix2 t e))) e := by
  have he : ∀ e, exps X R (ix2 n e) = Ideal.exp (scoreOf (fun t => X (ix2 n t)) (fun t e => R (ix2 t e)) e
      - topOf (scoreOf (fun t => X (ix2 n t)) (fun t e => R (ix2 t e)))) := fun e =>
    congrArg Ideal.exp (congrArg₂ (fun u v : EReal => u - v) (scores_apply X R n e)
      ((spread_apply _ n e).trans ((rowTop_apply _ n (.inl rfl) rfl).trans (congrArg topOf (funext fun e => scores_apply X R n e)))))
  exact congrArg₂ Ideal.div (he e) ((spread_apply _ n e).trans ((rowSum_apply _ n).trans (Finset.sum_congr rfl fun e _ => he e)))

/-- The reference's result at a row and a column. -/
theorem refOut_apply (I : IVec S2048x1 32) (E : FVec Ideal S32x512x1024 .bf16) (S : FVec Ideal S512x1024 .bf16) (n : Fin 2048) (b : Fin 1024)
    (e : Fin 32) (h : I (ix2 n (0 : Fin 1)) = BitVec.ofNat 32 e.val) :
    refOut X R I E S (ix2 n b) = routedAt X R E n e b + ∑ t : Fin 512, X (ix2 n t) * S (ix2 t b) := by
  rw [add_comm]
  refine congrArg₂ (fun u v : EReal => u + v) (StackMember.dotGeneral_plain_apply none _ _ n b) (congrArg₂ (fun u v : EReal => u * v) ?_ ?_)
  · refine (broadcastInDim_apply _ _ _ _ (ix2 n (0 : Fin 1)) fun d => by match d with | ⟨0, _⟩ => rfl | ⟨1, _⟩ => rfl).trans ?_
    exact (gatherW_apply _ _ n e (routeW_apply I n e h)).trans (probs_apply X R n e)
  · refine (rowDot_apply _ _ n b).trans (Finset.sum_congr rfl fun t _ => ?_)
    exact congrArg (fun u : EReal => X (ix2 n t) * u) (gatherE_apply E _ n e t b (routeE_apply I n e h))

end Cert.ReferenceIdealRun

end
-- ==== Proof.Value.Given.lean ====
/-
# What the precondition gives

The precondition is one array of bits, all ones. At row `n`, column `t` of the activations and lane `e` of the router it
says that the row's route is one of the 32 experts and that the two entries are below infinity in absolute value.
-/
module

public import proofs.«01_k».proof.Proof.Value.Reference
public import proofs.«01_k».proof.Pre_routed_and_finite_KernelIdeal
public import proofs.«01_k».proof.Pre_routed_and_finite_ReferenceIdeal
public import Idealize.ShloMosaic.Lib.WordCmp

@[expose] public section

noncomputable section

namespace Cert.Given

open Idealize.ShloMosaic Idealize.ShloMosaic.ValueIdx

/-- The shapes the precondition is printed with fit one another. -/
theorem facts : Cert.Pre_routed_and_finite_KernelIdeal.Facts :=
  ⟨by decide, by decide, by decide, by decide, by decide, by decide, by decide, by decide⟩

/-- So do they where it is printed over the whole arrays. -/
theorem facts_whole : Cert.Pre_routed_and_finite_ReferenceIdeal.Facts :=
  ⟨by decide, by decide, by decide, by decide, by decide, by decide, by decide, by decide⟩

/-- Two bits are both set where their conjunction is. -/
theorem both_set {x y : BitVec 1} (h : IntOp.andi x y = 1#1) : x = 1#1 ∧ y = 1#1 := by revert x y; decide

/-- A word found at least zero and below 32 is the word of one of the 32 experts. -/
theorem route_of_set (v : BitVec 32) (h : IntOp.andi (IntOp.cmpi .sge v 0#32) (IntOp.cmpi .slt v 32#32) = 1#1) :
    ∃ e : Fin 32, v = BitVec.ofNat 32 e.val := by
  have hv : v.toNat < 32 := by
    rw [WordCmp.andi_sge_zero_slt_ofNat (k := 32) (by norm_num) v] at h
    by_contra hn
    rw [decide_eq_false hn] at h
    exact absurd h (by decide)
  exact ⟨⟨v.toNat, hv⟩, (BitVec.ofNat_toNat 32 v).symm ▸ by simp⟩

/-- A number below infinity in absolute value is a real. -/
theorem real_of_set (x : Ideal .bf16)
    (h : FloatOps.cmpf .olt (FloatOps.hostAbsf x) (FloatOps.ofBits (F := Ideal) .bf16 0x7F80#16) = 1#1) : ∃ q : ℝ, (x : EReal) = (q : EReal) := by
  have htop : Ideal.ofBits .bf16 0x7F80#16 = ⊤ := by simp [Ideal.ofBits, Ideal.ieee]
  have hx : max (x : EReal) (-(x : EReal)) < ⊤ := by
    have h' : BitVec.ofBool (decide (max (x : EReal) (-(x : EReal)) < Ideal.ofBits .bf16 0x7F80#16)) = 1#1 := h
    rw [htop] at h'
    by_contra hn
    rw [decide_eq_false hn] at h'
    exact absurd h' (by decide)
  rw [max_lt_iff] at hx
  refine ⟨(x : EReal).toReal, (EReal.coe_toReal hx.1.ne fun hb => ?_).symm⟩
  have := hx.2
  rw [hb, EReal.neg_bot] at this
  exact lt_irrefl _ this

section Read
variable (X : FVec Ideal ⟨2, ![2048, 512]⟩ .bf16) (R : FVec Ideal ⟨2, ![512, 32]⟩ .bf16) (I : IVec ⟨2, ![2048, 1]⟩ 32)
  (E : FVec Ideal ⟨3, ![8, 512, 1024]⟩ .bf16) (S : FVec Ideal ⟨2, ![512, 1024]⟩ .bf16)
variable (h : (letI := facts; Cert.Pre_routed_and_finite_KernelIdeal.fn (F := Ideal) X R I E S) = fun _ => 1#1)
include h

/-- The three conditions at a row, a column and a lane. -/
theorem at_index (n : Fin 2048) (t : Fin 512) (e : Fin 32) :
    (∃ e₀ : Fin 32, I (ix2 n (0 : Fin 1)) = BitVec.ofNat 32 e₀.val) ∧ (∃ q : ℝ, (X (ix2 n t) : EReal) = (q : EReal))
      ∧ ∃ q : ℝ, (R (ix2 t e) : EReal) = (q : EReal) := by
  have h0 := congrFun h (ix3 n t e)
  obtain ⟨h1, h2⟩ := both_set h0
  have h1 := ((broadcastInDim_apply _ _ _ (ix3 n t e) (ix3 n t (0 : Fin 1)) fun d => by
      match d with | ⟨0, _⟩ => rfl | ⟨1, _⟩ => rfl | ⟨2, _⟩ => rfl).trans
    (broadcastInDim_apply _ _ _ (ix3 n t (0 : Fin 1)) (ix2 n t) fun d => by match d with | ⟨0, _⟩ => rfl | ⟨1, _⟩ => rfl)).symm.trans h1
  have h2 := ((broadcastInDim_apply _ _ _ (ix3 n t e) (ix3 (0 : Fin 1) t e) fun d => by
      match d with | ⟨0, _⟩ => rfl | ⟨1, _⟩ => rfl | ⟨2, _⟩ => rfl).trans
    (broadcastInDim_apply _ _ _ (ix3 (0 : Fin 1) t e) (ix2 t e) fun d => by match d with | ⟨0, _⟩ => rfl | ⟨1, _⟩ => rfl)).symm.trans h2
  obtain ⟨h3, h4⟩ := both_set h1
  have h3 := (broadcastInDim_apply _ _ _ (ix2 n t) (ix2 n (0 : Fin 1)) fun d => by
      match d with | ⟨0, _⟩ => rfl | ⟨1, _⟩ => rfl).symm.trans h3
  exact ⟨route_of_set _ h3, real_of_set _ h4, real_of_set _ h2⟩

end Read

end Cert.Given

end
-- ==== Proof.lean ====
/-
# The claims

The four devices' ring against the reference. Each program's frame is read off its run; the ideal pass rewrote nothing;
and in exact arithmetic, where the precondition holds, each device's block of the result is the reference's block.
-/
module

public import proofs.«01_k».proof.Defs
public import proofs.«01_k».proof.Proof.Value.Given

@[expose] public section

noncomputable section

namespace Cert.Proof

open Idealize.ShloMosaic Idealize.SL.Sem Idealize.ShloMosaic.ValueIdx

/-- The kernel runs to the end from any memory, keeps its arguments and leaves every counter at zero. -/
theorem frame_kernel : Cert.quiescent_Kernel (hKernel := Cert.Kernel.Gen.facts) := fun m g _ =>
  (θ_run Cert.Kernel.defs _ _).mono
    (fun _ h => ⟨fun c =>
      ⟨(h.1 c (0 : Fin 6)).trans (Cert.KernelRun.finalA_in m g c 0 rfl), (h.1 c (1 : Fin 6)).trans (Cert.KernelRun.finalA_in m g c 1 rfl),
        (h.1 c (2 : Fin 6)).trans (Cert.KernelRun.finalA_in m g c 2 rfl), (h.1 c (3 : Fin 6)).trans (Cert.KernelRun.finalA_in m g c 3 rfl),
        (h.1 c (4 : Fin 6)).trans (Cert.KernelRun.finalA_in m g c 4 rfl)⟩, h.2⟩)
    (Cert.KernelRun.run_main (F := Bits) m g)

/-- So it does in exact arithmetic. -/
theorem frame_ideal : Cert.quiescent_KernelIdeal (hKernelIdeal := Cert.KernelIdeal.Gen.facts) := fun m g _ =>
  (θ_run Cert.KernelIdeal.defs _ _).mono
    (fun _ h => ⟨fun c =>
      ⟨(h.1 c (0 : Fin 6)).trans (Cert.KernelIdealRun.finalA_in m g c 0 rfl), (h.1 c (1 : Fin 6)).trans (Cert.KernelIdealRun.finalA_in m g c 1 rfl),
        (h.1 c (2 : Fin 6)).trans (Cert.KernelIdealRun.finalA_in m g c 2 rfl), (h.1 c (3 : Fin 6)).trans (Cert.KernelIdealRun.finalA_in m g c 3 rfl),
        (h.1 c (4 : Fin 6)).trans (Cert.KernelIdealRun.finalA_in m g c 4 rfl)⟩, h.2⟩)
    (Cert.KernelIdealRun.run_main (F := Ideal) m g)

/-- The reference runs to the end from any memory and keeps its arguments; it has no counters. -/
theorem frame_reference : Cert.quiescent_ReferenceIdeal (hReferenceIdeal := Cert.ReferenceIdeal.Gen.facts) := fun m g _ =>
  (θ_run Cert.ReferenceIdeal.defs _ _).mono
    (fun r h => ⟨fun c => (h c).2, Idealize.ShloMosaic.sem_eq_zero_of_no_sems (by decide) r.2⟩)
    (Cert.ReferenceIdealRun.run_ref (F := Ideal) m g)

/-- Entry (a, b) of block `c` of the rows is the array's entry in row `512 c + a`. -/
theorem block_rows {α : Type} (v : (⟨2, ![2048, 1024]⟩ : Shape).Idx → α) (c : Fin 4) (a : Fin 512) (b : Fin 1024) :
    Layout.block ⟨2, ![512, 1024]⟩ ⟨2, ![2048, 1024]⟩ 0 4 c v (by decide) (ix2 a b) = v (ix2 (Cert.KernelIdealRun.rowAt c a) b) := by
  refine (Layout.block_apply c v _ _).trans (congrArg v (funext fun d => Fin.ext ?_))
  match d with
  | ⟨0, _⟩ => show c.val * 512 + a.val = 512 * c.val + a.val; omega
  | ⟨1, _⟩ => rfl

/-- Expert `k` of block `c` of the experts is expert `8 c + k`. -/
theorem block_experts {α : Type} (v : (⟨3, ![32, 512, 1024]⟩ : Shape).Idx → α) (c : Fin 4) (k : Fin 8) (t : Fin 512) (b : Fin 1024)
    (h : 8 * c.val + k.val < 32) :
    Layout.block ⟨3, ![8, 512, 1024]⟩ ⟨3, ![32, 512, 1024]⟩ 0 4 c v (by decide) (ix3 k t b) = v (ix3 (⟨8 * c.val + k.val, h⟩ : Fin 32) t b) := by
  refine (Layout.block_apply c v _ _).trans (congrArg v (funext fun d => Fin.ext ?_))
  match d with
  | ⟨0, _⟩ => show c.val * 8 + k.val = 8 * c.val + k.val; omega
  | ⟨1, _⟩ => rfl
  | ⟨2, _⟩ => rfl

/-- In exact arithmetic, from memories that agree and where the precondition holds, every device ends with its block of the
    reference's result. -/
theorem same_result : Cert.algebraic_KernelIdeal_ReferenceIdeal_pre_routed_and_finite_KernelIdeal (hKernelIdeal := Cert.KernelIdeal.Gen.facts)
    (hReferenceIdeal := Cert.ReferenceIdeal.Gen.facts) (hPre_routed_and_finite_KernelIdeal := Cert.Given.facts) := fun m g m' g' hpre hag => by
  have given := fun c => Cert.Given.at_index _ _ _ _ _ (hpre c)
  have H : Cert.KernelIdealRun.Holds m _ _ _ _ _ :=
    { x := fun c => (hag c).1
      r := fun c => (hag c).2.1
      i := fun c => (hag c).2.2.1
      e := fun c k t b => (congrFun (hag c).2.2.2.1 (ix3 k t b)).trans (block_experts _ c k t b _)
      s := fun c => (hag c).2.2.2.2
      realX := fun n t => by rw [← (hag 0).1]; exact (given 0 n t 0).2.1
      realR := fun t e => by rw [← (hag 0).2.1]; exact (given 0 0 t e).2.2 }
  refine ⟨_, (θ_run Cert.KernelIdeal.defs _ _).mono (fun _ h c => ⟨(h.1 c (5 : Fin 6)).trans ((Cert.KernelIdealRun.finalA_out m g c).trans ?_),
      (h.1 c (0 : Fin 6)).trans (Cert.KernelIdealRun.finalA_in m g c 0 rfl), (h.1 c (1 : Fin 6)).trans (Cert.KernelIdealRun.finalA_in m g c 1 rfl),
      (h.1 c (2 : Fin 6)).trans (Cert.KernelIdealRun.finalA_in m g c 2 rfl), (h.1 c (3 : Fin 6)).trans (Cert.KernelIdealRun.finalA_in m g c 3 rfl),
      (h.1 c (4 : Fin 6)).trans (Cert.KernelIdealRun.finalA_in m g c 4 rfl)⟩) (Cert.KernelIdealRun.run_main (F := Ideal) m g),
    (θ_run Cert.ReferenceIdeal.defs _ _).mono (fun _ h => h 0) (Cert.ReferenceIdealRun.run_ref (F := Ideal) m' g')⟩
  funext j
  obtain ⟨a, b, rfl⟩ : ∃ (a : Fin 512) (b : Fin 1024), j = ix2 a b := ⟨j 0, j 1, funext fun d => by match d with | ⟨0, _⟩ => rfl | ⟨1, _⟩ => rfl⟩
  obtain ⟨e₀, he⟩ := (given 0 (Cert.KernelIdealRun.rowAt c a) 0 0).1
  rw [(hag 0).2.2.1] at he
  exact (Cert.KernelIdealRun.out_apply g H c a b e₀ he).trans
    ((block_rows _ c a b).trans (Cert.ReferenceIdealRun.refOut_apply _ _ _ _ _ (Cert.KernelIdealRun.rowAt c a) b e₀ he)).symm

/-- Everything the certificate claims. -/
theorem claim : Cert.Claim :=
  ⟨Cert.Kernel.Gen.facts, Cert.KernelIdeal.Gen.facts, Cert.ReferenceIdeal.Gen.facts, Cert.Given.facts, Cert.Given.facts_whole,
    frame_kernel, frame_ideal, fun m g _ => frame_ideal m g trivial, frame_reference, fun m g _ => frame_reference m g trivial, trivial, same_result⟩

end Cert.Proof

end
